-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S2x512x2048 : Shape := ⟨3, ![2, 512, 2048]⟩
abbrev S3x512x4096 : Shape := ⟨3, ![3, 512, 4096]⟩
abbrev S2 : Shape := ⟨1, ![2]⟩
abbrev S3 : Shape := ⟨1, ![3]⟩
abbrev S_ : Shape := ⟨0, ![]⟩
abbrev S1x512x2048 : Shape := ⟨3, ![1, 512, 2048]⟩
abbrev S512x2048 : Shape := ⟨2, ![512, 2048]⟩
abbrev S1x512x4096 : Shape := ⟨3, ![1, 512, 4096]⟩
abbrev S512x4096 : Shape := ⟨2, ![512, 4096]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .f32⟩
  | .local _ .vmem, ⟨1, _⟩ => ⟨S1024x4096, .fp8e5m2⟩
  | .local _ .vmem, ⟨2, _⟩ => ⟨S2x512x2048, .f32⟩
  | .local _ .vmem, ⟨3, _⟩ => ⟨S4096x2048, .fp8e5m2⟩
  | .local _ .vmem, ⟨4, _⟩ => ⟨S2x512x2048, .f32⟩
  | .local _ .vmem, ⟨5, _⟩ => ⟨S3x512x4096, .fp8e5m2⟩
  | .local _ .vmem, ⟨6, _⟩ => ⟨S3x512x4096, .fp8e5m2⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![0, v8.toNat]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_10 : BitVec 32 := 1#32
  let v15 : BitVec 32 := Scalar.muli v5 c1_i32_10
  let v16 : BitVec 32 := Scalar.addi c0_i32_11 v15
  v16.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v17 : BitVec 32 := Scalar.muli v7 c1_i32_13
  let v18 : BitVec 32 := Scalar.addi c0_i32_14 v17
  v18.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21 : BitVec 32 := 1#32
  let v25 : BitVec 32 := Scalar.muli v7 c1_i32_21
  let v26 : BitVec 32 := Scalar.addi c0_i32_22 v25
  v26.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_30 : BitVec 32 := 1#32
  let v34 : BitVec 32 := Scalar.muli v5 c1_i32_30
  let v35 : BitVec 32 := Scalar.addi c0_i32_31 v34
  v35.toNat
def k0_off2 (d0 : Dev nD) : Fin 2 → Nat :=
  let c512_i32_39 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![512, v8.toNat]
def k0_off3 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![1024, v8.toNat]
def k0_off4 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![1536, v8.toNat]
def k0_off5 (d0 : Dev nD) : Fin 2 → Nat :=
  let c2048_i32_79 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![2048, v8.toNat]
def k0_off6 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![2560, v8.toNat]
def k0_off7 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![3072, v8.toNat]
def k0_off8 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v8 : BitVec 32 := Scalar.muli v2 c2048_i32
  ![3584, v8.toNat]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_141 : BitVec 32 := 1024#32
  let v170 : BitVec 32 := Scalar.muli v2 c1024_i32_141
  let c0_i32_150 : BitVec 32 := 0#32
  ![v170.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_155 : BitVec 32 := 1024#32
  let v186 : BitVec 32 := Scalar.muli v2 c1024_i32_155
  let c512_i32_156 : BitVec 32 := 512#32
  let v187 : BitVec 32 := Scalar.addi v186 c512_i32_156
  let c0_i32_166 : BitVec 32 := 0#32
  ![v187.toNat, 0]
def k0_dev5 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_207 : BitVec 32 := 1#32
  let v226 : BitVec 32 := Scalar.muli v7 c1_i32_207
  let v227 : BitVec 32 := Scalar.addi c0_i32_208 v226
  v227.toNat
def k0_dev6 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_217 : BitVec 32 := 1#32
  let v236 : BitVec 32 := Scalar.muli v5 c1_i32_217
  let v237 : BitVec 32 := Scalar.addi c0_i32_218 v236
  v237.toNat
def k0_off11 (d0 : Dev nD) (c1_i32_224 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_223 : BitVec 32 := 4#32
  let v246 : BitVec 32 := Scalar.addi v2 c4_i32_223
  let v247 : BitVec 32 := Scalar.subi v246 c1_i32_224
  let c4_i32_225 : BitVec 32 := 4#32
  let v248 : BitVec 32 := Scalar.remsi v247 c4_i32_225
  let c1024_i32_231 : BitVec 32 := 1024#32
  let v253 : BitVec 32 := Scalar.muli v248 c1024_i32_231
  let c0_i32_246 : BitVec 32 := 0#32
  ![v253.toNat, 0]
def k0_off12 (d0 : Dev nD) (c1_i32_226 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v249 : BitVec 32 := Scalar.addi v2 c1_i32_226
  let c4_i32_227 : BitVec 32 := 4#32
  let v250 : BitVec 32 := Scalar.remsi v249 c4_i32_227
  let c1024_i32_252 : BitVec 32 := 1024#32
  let v275 : BitVec 32 := Scalar.muli v250 c1024_i32_252
  let c512_i32_253 : BitVec 32 := 512#32
  let v276 : BitVec 32 := Scalar.addi v275 c512_i32_253
  let c0_i32_268 : BitVec 32 := 0#32
  ![v276.toNat, 0]
def k0_dev7 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_313 : BitVec 32 := 1#32
  let v324 : BitVec 32 := Scalar.muli v7 c1_i32_313
  let v325 : BitVec 32 := Scalar.addi c0_i32_314 v324
  v325.toNat
def k0_dev8 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_323 : BitVec 32 := 1#32
  let v334 : BitVec 32 := Scalar.muli v5 c1_i32_323
  let v335 : BitVec 32 := Scalar.addi c0_i32_324 v334
  v335.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_415 : BitVec 32 := 1#32
  let v422 : BitVec 32 := Scalar.addi v2 c1_i32_415
  let c4_i32_416 : BitVec 32 := 4#32
  let v423 : BitVec 32 := Scalar.remsi v422 c4_i32_416
  let c1024_i32_422 : BitVec 32 := 1024#32
  let v429 : BitVec 32 := Scalar.muli v423 c1024_i32_422
  let c0_i32_437 : BitVec 32 := 0#32
  ![v429.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_417 : BitVec 32 := 4#32
  let v424 : BitVec 32 := Scalar.addi v2 c4_i32_417
  let c1_i32_418 : BitVec 32 := 1#32
  let v425 : BitVec 32 := Scalar.subi v424 c1_i32_418
  let c4_i32_419 : BitVec 32 := 4#32
  let v426 : BitVec 32 := Scalar.remsi v425 c4_i32_419
  let c1024_i32_443 : BitVec 32 := 1024#32
  let v451 : BitVec 32 := Scalar.muli v426 c1024_i32_443
  let c512_i32_444 : BitVec 32 := 512#32
  let v452 : BitVec 32 := Scalar.addi v451 c512_i32_444
  let c0_i32_459 : BitVec 32 := 0#32
  ![v452.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Steps.lean ====
/-
# Steps: the resource algebra of the proof, and one rule per kind of effect

The kernel's body is run in `Parts1` … `Parts4`. Each effect there is one of a few kinds: a load
or a store through a slot, a local copy started or awaited, a copy to a neighbour, a wait on a cell the
neighbours pay. This file states each local kind once, over memrefs owned at stated contents
(`owns`) or at contents nobody needs (`free`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Pipeline.Value
public import Idealize.ShloMosaic.Lib.Tactic

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's copy, the ring's rounds, and counters for local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds' copy, the left part of the right component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_lands : (ER : Emb UB 𝕄).LandsIn (upEmb : UEmb _ 𝕄) := by unfold ER; infer_instance
/-- The local copies' counters. -/
abbrev EC : UEmb Counters (MT nD τ sig Unit (Elt F) ℕ UU ℕ) := countersEmb

abbrev 𝒱₀ : Variants := Variants.none

/-- Running `p` on device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A memref of device `c` at share `q`, reading `X`. -/
abbrev own (c : Dev nD) {sp : Space} {s : Shape} {e : EltTy} (mm : Memref sig .tc sp s e) (q : PosShare TreeShare) (X : s.Idx → Elt F e) : sProp 𝕄 :=
  owns (Ix := Unit) (Name := ℕ) (U := UU) (Lvl := ℕ) (c : Thread nD τ) mm q X

/-- A memref of device `c` held whole, its contents not recorded. -/
def free (c : Dev nD) {sp : Space} {s : Shape} {e : EltTy} (mm : Memref sig .tc sp s e) : sProp 𝕄 :=
  iprop(∃ f, mm.view.loc (c : Thread nD τ) ↦[mm.view.set]{fullShare} f)

section Own
variable (c : Dev nD) {sp : Space} {s : Shape} {e : EltTy} (mm : Memref sig .tc sp s e)

omit [FloatOps F] in
instance free_storable : BI.Storable (upEmb : UEmb _ 𝕄) (free (F := F) c mm) := by unfold free; infer_instance

omit [FloatOps F] in
/-- Recorded contents may be forgotten. -/
theorem free_of_own (X : s.Idx → Elt F e) : own c mm fullShare X ⊢ free c mm := by
  unfold own owns free; iintro ⟨%f, -, H⟩; iexists f; iexact H

omit [FloatOps F] in
/-- Full ownership is two halves reading the same. -/
theorem own_split (X : s.Idx → Elt F e) : own c mm fullShare X ⊢ iprop(own c mm fullShare.left X ∗ own c mm fullShare.right X) := by
  unfold own owns
  iintro ⟨%f, %hf, H⟩
  ihave H2 := (pointsTo_share (PosShare.mem_left_op_right fullShare)).1 $$ H
  icases H2 with ⟨HL, HR⟩
  isplitl [HL]
  · iexists f; isplitr; · (ipureintro; exact hf)
    iexact HL
  · iexists f; isplitr; · (ipureintro; exact hf)
    iexact HR

omit [FloatOps F] in
/-- and two halves, at whatever contents, are full ownership at the first's. -/
theorem own_join (X Y : s.Idx → Elt F e) : iprop(own c mm fullShare.left X ∗ own c mm fullShare.right Y) ⊢ own c mm fullShare X := by
  unfold own owns
  iintro ⟨⟨%f, %hf, HL⟩, ⟨%g, %hg, HR⟩⟩
  ihave %hag := (pointsTo_agree) $$ [HL HR]
  · isplitl [HL] <;> iassumption
  iexists f; isplitr; · (ipureintro; exact hf)
  iapply (pointsTo_share (PosShare.mem_left_op_right fullShare)).2
  isplitl [HL]; · iexact HL
  iapply (Entails.of_eq (pointsTo_congr fun i hi => (hag i (Finset.mem_inter.mpr ⟨hi, hi⟩)).1).symm) $$ HR

omit [FloatOps F] in
/-- A memref held with any contents reads something. -/
theorem own_of_free : free (F := F) c mm ⊢ iprop(∃ X, own c mm fullShare X) := by
  unfold free
  iintro ⟨%f, H⟩
  iexists (mm.view.read (Elt F) f)
  iapply (owns_intro (Val := Elt F) (c : Thread nD τ) mm fullShare f) $$ H

omit [FloatOps F] in
/-- Squeezing unit axes away leaves the same elements. -/
theorem free_squeeze {s' : Shape} (hq : s.Squeezes s') : free (F := F) c (mm.squeeze s' hq) = free c mm := by
  unfold free; rw [Memref.set_view_squeeze]

end Own

/-! ## Loads and stores -/

section Mem
variable (c : Dev nD) {cs : CoreSpace} {s : Shape} {e : EltTy} {mm : Memref sig .tc cs s e} {r : Rect s} {hr : ∀ a, r.stride a = 1}
  {α : Type} {Q : α → sProp (MT nD τ sig Unit (Elt F) ℕ UU ℕ)}

/-- A load through the rectangle of an owned slice reads the slice. -/
theorem load_slice {hl : mm.view.LoadsAt r.toLoadRect} {k : (r.shape.Idx → Elt F e) → Prog (TpuEff nD τ sig (Elt F) Λ₀ .tc) α}
    {q : PosShare TreeShare} {X : r.shape.Idx → Elt F e} :
    own c (mm.slice r hr) q X ⊢ iprop((own c (mm.slice r hr) q X -∗ wpc c (k X) Q) -∗ wpc c (.op (.load mm r.toLoadRect hl) k) Q) := by
  unfold own owns
  iintro ⟨%f, %hf, H⟩ Hk
  iapply (wp_load_rect 𝒱₀ (c : Thread nD τ) none Set.univ (m := mm) (r := r) (Finset.Subset.refl _)) $$ H
  iintro H
  rw [show (mm.access r).read (Elt F) f = X from hf]
  iapply Hk
  iexists f; isplitr; · (ipureintro; exact hf)
  iexact H

/-- A load through the rectangle of an owned slot (a slice with its unit axis dropped) reads a vector that is the slot's
    contents once reshaped. -/
theorem load_slot {s' : Shape} {hq : r.shape.Squeezes s'} {hc : r.shape.ShapeCasts s'}
    {hl : mm.view.LoadsAt r.toLoadRect} {k : (r.shape.Idx → Elt F e) → Prog (TpuEff nD τ sig (Elt F) Λ₀ .tc) α}
    {q : PosShare TreeShare} {X : s'.Idx → Elt F e} :
    own c ((mm.slice r hr).squeeze s' hq) q X
      ⊢ iprop((∀ v, ⌜shapeCast s' v hc = X⌝ -∗ own c ((mm.slice r hr).squeeze s' hq) q X -∗ wpc c (k v) Q)
          -∗ wpc c (.op (.load mm r.toLoadRect hl) k) Q) := by
  unfold own owns
  iintro ⟨%f, %hf, H⟩ Hk
  iapply (wp_load_rect 𝒱₀ (c : Thread nD τ) none Set.univ (m := mm) (r := r) (S := ((mm.slice r hr).squeeze s' hq).view.set)
    (by rw [Memref.set_view_squeeze])) $$ H
  iintro H
  iapply Hk $$ %((mm.access r).read (Elt F) f) %hf
  iexists f; isplitr; · (ipureintro; exact hf)
  iexact H

/-- A load through the rectangle of a slice whose contents nobody needs reads something. -/
theorem load_free {hl : mm.view.LoadsAt r.toLoadRect} {k : (r.shape.Idx → Elt F e) → Prog (TpuEff nD τ sig (Elt F) Λ₀ .tc) α} :
    free c (mm.slice r hr) ⊢ iprop((∀ v, free c (mm.slice r hr) -∗ wpc c (k v) Q) -∗ wpc c (.op (.load mm r.toLoadRect hl) k) Q) := by
  iintro H Hk
  ihave H := (own_of_free c (mm.slice r hr)) $$ H
  icases H with ⟨%X, H⟩
  iapply (load_slice c) $$ H
  iintro H
  iapply Hk
  iapply (free_of_own c (mm.slice r hr) X) $$ H

/-- The same, of a slot. -/
theorem load_free_slot {s' : Shape} {hq : r.shape.Squeezes s'}
    {hl : mm.view.LoadsAt r.toLoadRect} {k : (r.shape.Idx → Elt F e) → Prog (TpuEff nD τ sig (Elt F) Λ₀ .tc) α} :
    free c ((mm.slice r hr).squeeze s' hq)
      ⊢ iprop((∀ v, free c ((mm.slice r hr).squeeze s' hq) -∗ wpc c (k v) Q) -∗ wpc c (.op (.load mm r.toLoadRect hl) k) Q) := by
  rw [free_squeeze]; exact load_free c

/-- A store through the rectangle of a free slice leaves it owned at the stored vector. -/
theorem store_slice {w : r.shape.Idx → Elt F e} {hx : (mm.access r).Stores Finset.univ} {hm}
    {k : PUnit → Prog (TpuEff nD τ sig (Elt F) Λ₀ .tc) α} :
    free c (mm.slice r hr)
      ⊢ iprop((own c (mm.slice r hr) fullShare w -∗ wpc c (k ⟨⟩) Q) -∗ wpc c (.op (.store mm r w Finset.univ hx hm) k) Q) := by
  unfold free own owns
  iintro ⟨%f, H⟩ Hk
  iapply (wp_store 𝒱₀ (c : Thread nD τ) none Set.univ (m := mm) (r := r) (Mk := Finset.univ) (S := (mm.access r).set) (Finset.Subset.refl _)) $$ H
  iintro H
  iapply Hk
  iexists ((mm.access r).write (Elt F) f w Finset.univ)
  isplitr; · (ipureintro; exact View.read_write_univ _ _)
  iexact H

/-- A store through the rectangle of a free slot leaves it owned at the stored vector reshaped. -/
theorem store_slot {s' : Shape} {hq : r.shape.Squeezes s'} {hc : r.shape.ShapeCasts s'} {X : s'.Idx → Elt F e}
    {w : r.shape.Idx → Elt F e} {hx : (mm.access r).Stores Finset.univ} {hm}
    {k : PUnit → Prog (TpuEff nD τ sig (Elt F) Λ₀ .tc) α} (hw : shapeCast s' w hc = X) :
    free c ((mm.slice r hr).squeeze s' hq)
      ⊢ iprop((own c ((mm.slice r hr).squeeze s' hq) fullShare X -∗ wpc c (k ⟨⟩) Q) -∗ wpc c (.op (.store mm r w Finset.univ hx hm) k) Q) := by
  subst hw
  unfold free own owns
  iintro ⟨%f, H⟩ Hk
  iapply (wp_store 𝒱₀ (c : Thread nD τ) none Set.univ (m := mm) (r := r) (Mk := Finset.univ) (S := ((mm.slice r hr).squeeze s' hq).view.set)
    (by rw [Memref.set_view_squeeze]; exact Finset.Subset.refl _)) $$ H
  iintro H
  iapply Hk
  iexists ((mm.access r).write (Elt F) f w Finset.univ)
  isplitr
  · ipureintro
    show shapeCast s' ((mm.access r).read (Elt F) ((mm.access r).write (Elt F) f w Finset.univ)) hc = _
    rw [View.read_write_univ]
  iexact H

end Mem

/-! ## Local copies -/

section Copy
variable (c : Dev nD) {sp sp' : Space} {s : Shape} {e : EltTy} {src : Memref sig .tc sp s e} {dst : Memref sig .tc sp' s e}
  {α : Type} {Q : α → sProp (MT nD τ sig Unit (Elt F) ℕ UU ℕ)}

/-- A local copy in flight on the semaphore `sm`, to hand over `D` when awaited for the credit `N`. -/
abbrev flight (c : Dev nD) (sm : DmaSem sig) (N : ℕ) (D : sProp 𝕄) : sProp 𝕄 := Flight EC (c : Thread nD τ) (.dma sm) () N D

/-- What rides along with a copy in flight is handed over with it. -/
theorem flight_frame {sm : DmaSem sig} {N : ℕ} {D R' : sProp 𝕄} : iprop(flight c sm N D ∗ R') ⊢ flight c sm N iprop(D ∗ R') := by
  unfold flight Flight
  iintro ⟨⟨⟨%R, HR, %hcap, %hpeek⟩, Hcr⟩, HR'⟩
  isplitl [HR HR']
  · iexists iprop(R ∗ R')
    isplitl [HR HR']
    · isplitl [HR] <;> iassumption
    isplitr
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcr

/-- A copy out of elements held at a share, into a free memref, started on a semaphore at zero: in flight, to hand over
    the target reading what the source read, and the source's elements. -/
theorem copy_raw {sm : DmaSem sig} {hsrc : src.view.WordExact} {hdst : dst.view.WordExact}
    {hsem : DmaTarget.Typed (nD := nD) sp (.dma sm) (DmaTarget.here (p := (c : Thread nD τ).2) dst)}
    {k : PUnit → Prog (TpuEff nD τ sig (Elt F) Λ₀ .tc) α} {q : PosShare TreeShare} {f : Buf (Elt F) (src.view.loc (c : Thread nD τ))}
    (hn : 0 < s.numel) :
    iprop((src.view.loc (c : Thread nD τ) ↦[src.view.set]{q} f) ∗ free c dst ∗ semVal ((c : Thread nD τ), .dma sm) 0)
      ⊢ iprop((flight c sm dst.view.dmaCredit iprop(own c dst fullShare (src.view.read (Elt F) f) ∗ (src.view.loc (c : Thread nD τ) ↦[src.view.set]{q} f)) -∗ wpc c (k ⟨⟩) Q)
          -∗ wpc c (.op (.enqueueDma src (.here dst) (.dma sm) hsrc hdst hsem) k) Q) := by
  unfold free own owns
  iintro ⟨Hs, ⟨%g, Hd⟩, Hv⟩ Hk
  iapply (Transfers.wp_dmaLocal EC 𝒱₀ (c : Thread nD τ) none () dst.view.dmaCredit rfl (View.dmaCredit_pos _ hn) (Finset.Subset.refl _)) $$ [Hs Hd Hv]
  · isplitl [Hs]; · iexact Hs
    isplitl [Hd]; · iexact Hd
    iexact Hv
  iintro Hf
  iapply Hk
  iapply (Transfers.Flight_mono EC (c : Thread nD τ) ?_) $$ Hf
  iintro ⟨Hd, Hs⟩
  isplitl [Hd]
  · iexists (dst.view.write (Elt F) g (src.view.read (Elt F) f) Finset.univ)
    isplitr
    · ipureintro
      exact View.read_write_univ _ _
    iexact Hd
  · iexact Hs

/-- A copy from an owned memref into a free one: in flight, to hand over the target reading the same, and the source. -/
theorem copy_own {sm : DmaSem sig} {hsrc : src.view.WordExact} {hdst : dst.view.WordExact}
    {hsem : DmaTarget.Typed (nD := nD) sp (.dma sm) (DmaTarget.here (p := (c : Thread nD τ).2) dst)}
    {k : PUnit → Prog (TpuEff nD τ sig (Elt F) Λ₀ .tc) α} {q : PosShare TreeShare} {X : s.Idx → Elt F e} (hn : 0 < s.numel) :
    iprop(own c src q X ∗ free c dst ∗ semVal ((c : Thread nD τ), .dma sm) 0)
      ⊢ iprop((flight c sm dst.view.dmaCredit iprop(own c dst fullShare X ∗ own c src q X) -∗ wpc c (k ⟨⟩) Q)
          -∗ wpc c (.op (.enqueueDma src (.here dst) (.dma sm) hsrc hdst hsem) k) Q) := by
  iintro ⟨Hs, Hd, Hv⟩ Hk
  ihave Hs := (show own c src q X ⊢ iprop(∃ f, ⌜src.view.read (Elt F) f = X⌝ ∗ (src.view.loc (c : Thread nD τ) ↦[src.view.set]{q} f)) from .rfl) $$ Hs
  icases Hs with ⟨%f, %hf, Hs⟩
  subst hf
  iapply (copy_raw c hn) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]; · iexact Hd
  iapply (owns_intro (Val := Elt F) (c : Thread nD τ) src q f) $$ Hs

/-- A copy out of a part of a buffer held whole at a share: the rest of the buffer rides along, and the whole comes back. -/
theorem copy_part {sm : DmaSem sig} {hsrc : src.view.WordExact} {hdst : dst.view.WordExact}
    {hsem : DmaTarget.Typed (nD := nD) sp (.dma sm) (DmaTarget.here (p := (c : Thread nD τ).2) dst)}
    {k : PUnit → Prog (TpuEff nD τ sig (Elt F) Λ₀ .tc) α} {q : PosShare TreeShare} {f : Buf (Elt F) (src.view.loc (c : Thread nD τ))}
    {X : s.Idx → Elt F e} (hX : src.view.read (Elt F) f = X) (hn : 0 < s.numel) :
    iprop((src.view.loc (c : Thread nD τ) ↦{q} f) ∗ free c dst ∗ semVal ((c : Thread nD τ), .dma sm) 0)
      ⊢ iprop((flight c sm dst.view.dmaCredit iprop(own c dst fullShare X ∗ (src.view.loc (c : Thread nD τ) ↦{q} f)) -∗ wpc c (k ⟨⟩) Q)
          -∗ wpc c (.op (.enqueueDma src (.here dst) (.dma sm) hsrc hdst hsem) k) Q) := by
  subst hX
  iintro ⟨Hs, Hd, Hv⟩ Hk
  ihave Hs := (pointsTo_split_subset (Finset.subset_univ src.view.set)).1 $$ Hs
  icases Hs with ⟨Hs, Hr⟩
  iapply (copy_raw c hn) $$ [Hs Hd Hv]
  · isplitl [Hs]; · iexact Hs
    isplitl [Hd] <;> iassumption
  iintro Hf
  iapply Hk
  ihave Hf := (flight_frame c) $$ [Hf Hr]
  · isplitl [Hf]; · iexact Hf
    iexact Hr
  iapply (Transfers.Flight_mono EC (c : Thread nD τ) ?_) $$ Hf
  iintro ⟨⟨Hd, Hs⟩, Hr⟩
  isplitl [Hd]; · iexact Hd
  iapply (pointsTo_split_subset (Finset.subset_univ src.view.set)).2
  isplitl [Hs]; · iexact Hs
  iexact Hr

end Copy

end Cert.RingProof

end
-- ==== Proof.Protocol.lean ====
/-
# Protocol: who waits for what, and what each landing hands over

Four devices on a ring; `nxt c` is device `c`'s right neighbour, `prv c` its left one. Each device keeps its own
1024 × 4096 block of `x`, cast to fp8, in `x8`. The top half travels clockwise through the slots `cw 0..2` of the devices
to the right, the bottom half counterclockwise through the slots `ccw 0..2` of the devices to the left.

| cell of device `c`      | waits | paid by                         | hands over                                       |
|-------------------------|-------|---------------------------------|--------------------------------------------------|
| barrier, duty `false`   | for 2 | `nxt c` (its signal leftwards)  | the three `cw` slots of `nxt c`, free            |
| barrier, duty `true`    |       | `prv c` (its signal rightwards) | the three `ccw` slots of `prv c`, free           |
| `cw_send h`  (7 + h)    | once  | `c`'s own copy `h` to `nxt c`   | the lent half share of that copy's source        |
| `cw_recv h`  (10 + h)   | once  | `prv c`'s copy `h`              | slot `cw h` = top half of device `c - 1 - h`     |
| `ccw_send h` (13 + h)   | once  | `c`'s own copy `h` to `prv c`   | the lent half share of that copy's source        |
| `ccw_recv h` (16 + h)   | once  | `nxt c`'s copy `h`              | slot `ccw h` = bottom half of device `c + 1 + h` |

The source of copy 0 is a half of `x8`, that of copy `h + 1` the slot landed in at step `h`. A source is lent at its left
half share; the loads of the matrix products go through the right half. A device owes, in this order, its two signals and
its six copies; a cell's level is below those of all cells still owed when it is waited on.
-/
module

public import proofs.«01_k».proof.Proof.Steps
public import proofs.«01_k».proof.Proof.Gen.KernelIdeal.Points

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- The ring's rotation as a bijection. -/
def rot : Dev nD ≃ Dev nD := ⟨nxt, prv, prv_nxt, nxt_prv⟩

/-! The devices the kernel computes: its signals go left then right, its copies right and left in turn. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The memrefs -/

abbrev xM : Memref sig .tc .vmem S1024x4096 .f32 := Memref.whole cc0_stg0_0
abbrev wM : Memref sig .tc .hbm S4096x8192 .f32 := Memref.whole main_arg1
abbrev oM : Memref sig .tc .hbm S4096x2048 .f32 := Memref.whole main_v1
abbrev x8M : Memref sig .tc .vmem S1024x4096 .fp8e5m2 := Memref.whole cc0_scratch0
abbrev wsM : Memref sig .tc .vmem S2x512x2048 .f32 := Memref.whole cc0_scratch1
abbrev w8M : Memref sig .tc .vmem S4096x2048 .fp8e5m2 := Memref.whole cc0_scratch2
abbrev osM : Memref sig .tc .vmem S2x512x2048 .f32 := Memref.whole cc0_scratch3
abbrev cwM : Memref sig .tc .vmem S3x512x4096 .fp8e5m2 := Memref.whole cc0_scratch4
abbrev ccM : Memref sig .tc .vmem S3x512x4096 .fp8e5m2 := Memref.whole cc0_scratch5

/-- The two row halves of a 1024 × 4096 block; -/
abbrev rTop : Rect S1024x4096 := Rect.unit (s := S1024x4096) ![0, 0] S512x4096.size inb_S1024x4096_S512x4096_0_0
abbrev rBot : Rect S1024x4096 := Rect.unit (s := S1024x4096) ![512, 0] S512x4096.size inb_S1024x4096_S512x4096_512_0
abbrev x8T : Memref sig .tc .vmem S512x4096 .fp8e5m2 := x8M.slice rTop (fun _ => rfl)
abbrev x8B : Memref sig .tc .vmem S512x4096 .fp8e5m2 := x8M.slice rBot (fun _ => rfl)

/-- the two slots of a 2 × 512 × 2048 scratch; -/
abbrev rD0 : Rect S2x512x2048 := Rect.unit (s := S2x512x2048) ![0, 0, 0] S1x512x2048.size inb_S2x512x2048_S1x512x2048_0_0_0
abbrev rD1 : Rect S2x512x2048 := Rect.unit (s := S2x512x2048) ![1, 0, 0] S1x512x2048.size inb_S2x512x2048_S1x512x2048_1_0_0
abbrev wS0 : Memref sig .tc .vmem S512x2048 .f32 := (wsM.slice rD0 (fun _ => rfl)).squeeze S512x2048 squeezes_S1x512x2048_S512x2048
abbrev wS1 : Memref sig .tc .vmem S512x2048 .f32 := (wsM.slice rD1 (fun _ => rfl)).squeeze S512x2048 squeezes_S1x512x2048_S512x2048
abbrev oS0 : Memref sig .tc .vmem S512x2048 .f32 := (osM.slice rD0 (fun _ => rfl)).squeeze S512x2048 squeezes_S1x512x2048_S512x2048
abbrev oS1 : Memref sig .tc .vmem S512x2048 .f32 := (osM.slice rD1 (fun _ => rfl)).squeeze S512x2048 squeezes_S1x512x2048_S512x2048

/-- the three slots of a 3 × 512 × 4096 scratch; -/
abbrev rR0 : Rect S3x512x4096 := Rect.unit (s := S3x512x4096) ![0, 0, 0] S1x512x4096.size inb_S3x512x4096_S1x512x4096_0_0_0
abbrev rR1 : Rect S3x512x4096 := Rect.unit (s := S3x512x4096) ![1, 0, 0] S1x512x4096.size inb_S3x512x4096_S1x512x4096_1_0_0
abbrev rR2 : Rect S3x512x4096 := Rect.unit (s := S3x512x4096) ![2, 0, 0] S1x512x4096.size inb_S3x512x4096_S1x512x4096_2_0_0
abbrev cw0 : Memref sig .tc .vmem S512x4096 .fp8e5m2 := (cwM.slice rR0 (fun _ => rfl)).squeeze S512x4096 squeezes_S1x512x4096_S512x4096
abbrev cw1 : Memref sig .tc .vmem S512x4096 .fp8e5m2 := (cwM.slice rR1 (fun _ => rfl)).squeeze S512x4096 squeezes_S1x512x4096_S512x4096
abbrev cw2 : Memref sig .tc .vmem S512x4096 .fp8e5m2 := (cwM.slice rR2 (fun _ => rfl)).squeeze S512x4096 squeezes_S1x512x4096_S512x4096
abbrev ccw0 : Memref sig .tc .vmem S512x4096 .fp8e5m2 := (ccM.slice rR0 (fun _ => rfl)).squeeze S512x4096 squeezes_S1x512x4096_S512x4096
abbrev ccw1 : Memref sig .tc .vmem S512x4096 .fp8e5m2 := (ccM.slice rR1 (fun _ => rfl)).squeeze S512x4096 squeezes_S1x512x4096_S512x4096
abbrev ccw2 : Memref sig .tc .vmem S512x4096 .fp8e5m2 := (ccM.slice rR2 (fun _ => rfl)).squeeze S512x4096 squeezes_S1x512x4096_S512x4096

/-- the eight row chunks of the cast weights; -/
abbrev rW : Fin 8 → Rect S4096x2048
  | 0 => Rect.unit (s := S4096x2048) ![0, 0] S512x2048.size inb_S4096x2048_S512x2048_0_0
  | 1 => Rect.unit (s := S4096x2048) ![512, 0] S512x2048.size inb_S4096x2048_S512x2048_512_0
  | 2 => Rect.unit (s := S4096x2048) ![1024, 0] S512x2048.size inb_S4096x2048_S512x2048_1024_0
  | 3 => Rect.unit (s := S4096x2048) ![1536, 0] S512x2048.size inb_S4096x2048_S512x2048_1536_0
  | 4 => Rect.unit (s := S4096x2048) ![2048, 0] S512x2048.size inb_S4096x2048_S512x2048_2048_0
  | 5 => Rect.unit (s := S4096x2048) ![2560, 0] S512x2048.size inb_S4096x2048_S512x2048_2560_0
  | 6 => Rect.unit (s := S4096x2048) ![3072, 0] S512x2048.size inb_S4096x2048_S512x2048_3072_0
  | 7 => Rect.unit (s := S4096x2048) ![3584, 0] S512x2048.size inb_S4096x2048_S512x2048_3584_0

/-- the eight row tiles of the result, in the order device `c` writes them. -/
abbrev rO (c : Dev nD) : Fin 8 → Rect S4096x2048
  | 0 => Rect.unit (s := S4096x2048) (k0_off9 c) S512x2048.size (k0_off9_inb c)
  | 1 => Rect.unit (s := S4096x2048) (k0_off10 c) S512x2048.size (k0_off10_inb c)
  | 2 => Rect.unit (s := S4096x2048) (k0_off11 c 1#32) S512x2048.size (k0_off11_inb c 0)
  | 3 => Rect.unit (s := S4096x2048) (k0_off12 c 1#32) S512x2048.size (k0_off12_inb c 0)
  | 4 => Rect.unit (s := S4096x2048) (k0_off11 c 2#32) S512x2048.size (k0_off11_inb c 1)
  | 5 => Rect.unit (s := S4096x2048) (k0_off12 c 2#32) S512x2048.size (k0_off12_inb c 1)
  | 6 => Rect.unit (s := S4096x2048) (k0_off13 c) S512x2048.size (k0_off13_inb c)
  | 7 => Rect.unit (s := S4096x2048) (k0_off14 c) S512x2048.size (k0_off14_inb c)

theorem rW_stride : ∀ t a, (rW t).stride a = 1 := fun t a => by fin_cases t <;> rfl
theorem rO_stride (c : Dev nD) : ∀ t a, (rO c t).stride a = 1 := fun t a => by fin_cases t <;> rfl

/-! ## The contents -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- What the pipeline stages on device `c`: its block of `x` and the two scales. -/
def xstg (c : Dev nD) : (cc0_stg0_0 : Ref sig .tc).ty.Contents (Elt F) :=
  (win0_0.blk (0 : Fin 1)).view.read (Elt F) (m ((c : Thread nD τ).loc main_arg0))
def sxstg (c : Dev nD) : (cc0_stg1_0 : Ref sig .tc).ty.Contents (Elt F) :=
  (win0_1.blk (0 : Fin 1)).view.read (Elt F) (m ((c : Thread nD τ).loc main_arg2))
def swstg (c : Dev nD) : (cc0_stg2_0 : Ref sig .tc).ty.Contents (Elt F) :=
  (win0_2.blk (0 : Fin 1)).view.read (Elt F) (m ((c : Thread nD τ).loc main_arg3))
/-- The weights of device `c`'s copy. -/
def warr (c : Dev nD) : Buf (Elt F) ((c : Thread nD τ).loc main_arg1) := m ((c : Thread nD τ).loc main_arg1)

/-- Device `c`'s block of `x` in fp8, and its halves. -/
def X8 (c : Dev nD) : S1024x4096.Idx → Elt F .fp8e5m2 := k0_pay1 (xstg m c)
def xT (c : Dev nD) : S512x4096.Idx → Elt F .fp8e5m2 := fun j => X8 m c (rTop.emb j)
def xB (c : Dev nD) : S512x4096.Idx → Elt F .fp8e5m2 := fun j => X8 m c (rBot.emb j)

/-! ## Cells -/

/-- The runtime's barrier semaphore. -/
abbrev barS : Sem sig := (SemArray.scalar (sig.barrier 0 rfl) : Sems sig S_).sem
abbrev bC (c : Dev nD) : GSem nD τ sig := ((c : Thread nD τ), .reg barS)
abbrev dC (c : Dev nD) (q : DmaSem sig) : GSem nD τ sig := ((c : Thread nD τ), .dma q)
/-- The copies' semaphores by number. -/
abbrev q (n : ℕ) (h : n < 19 := by decide) : DmaSem sig := ⟨n, h⟩

/-- The credit of one slot. -/
abbrev N : ℕ := (cw0 : Memref sig .tc .vmem S512x4096 .fp8e5m2).view.dmaCredit
theorem N_pos : 0 < N := View.dmaCredit_pos _ (by decide)

/-! ## The schedule -/

/-- What the barrier hands device `c`: by `false` the right neighbour's `cw` slots, by `true` the left neighbour's `ccw` slots. -/
def barPay (c : Dev nD) : Bool → sProp 𝕄
  | false => iprop(free (nxt c) cw0 ∗ free (nxt c) cw1 ∗ free (nxt c) cw2)
  | true => iprop(free (prv c) ccw0 ∗ free (prv c) ccw1 ∗ free (prv c) ccw2)

/-- What the semaphore numbered `n` hands device `c`. -/
def dmaPay (c : Dev nD) (n : ℕ) : sProp 𝕄 :=
  match n with
  | 7 => own c x8T fullShare.left (xT m c)
  | 8 => own c cw0 fullShare.left (xT m (prv c))
  | 9 => own c cw1 fullShare.left (xT m (prv (prv c)))
  | 10 => own c cw0 fullShare (xT m (prv c))
  | 11 => own c cw1 fullShare (xT m (prv (prv c)))
  | 12 => own c cw2 fullShare (xT m (prv (prv (prv c))))
  | 13 => own c x8B fullShare.left (xB m c)
  | 14 => own c ccw0 fullShare.left (xB m (nxt c))
  | 15 => own c ccw1 fullShare.left (xB m (nxt (nxt c)))
  | 16 => own c ccw0 fullShare (xB m (nxt c))
  | 17 => own c ccw1 fullShare (xB m (nxt (nxt c)))
  | 18 => own c ccw2 fullShare (xB m (nxt (nxt (nxt c))))
  | _ => iprop(emp)

instance barPay_storable (c : Dev nD) (d : Bool) : BI.Storable (upEmb : UEmb _ 𝕄) (barPay (F := F) c d) := by
  unfold barPay; cases d <;> infer_instance
instance dmaPay_storable (c : Dev nD) (n : ℕ) : BI.Storable (upEmb : UEmb _ 𝕄) (dmaPay m c n) := by
  unfold dmaPay; split <;> infer_instance

/-- One round of each cell. -/
def sched : Rounds.Schedule (GSem nD τ sig) Bool 𝕄 where
  duties g r := if r = 0 ∧ g.1.2 = .tc then (match g.2 with
    | .reg s => if s = barS then Finset.univ else ∅
    | .dma s => if 7 ≤ s.val then {false} else ∅) else ∅
  unitless _ := False
  amount g _ _ := match g.2 with | .reg _ => 1 | .dma _ => N
  payload g _ d := match g.2 with | .reg _ => barPay g.1.1 d | .dma s => dmaPay m g.1.1 s.val
  amount_pos g _ _ _ := by
    rcases g with ⟨t, s | s⟩
    · exact Nat.one_pos
    · exact N_pos

instance sched_storable (g : GSem nD τ sig) (r : ℕ) (d : Bool) : BI.Storable (upEmb : UEmb _ 𝕄) ((sched m).payload g r d) := by
  rcases g with ⟨t, s | s⟩
  · exact barPay_storable _ _
  · exact dmaPay_storable _ _ _

theorem duties_bar (c : Dev nD) : (sched m).duties (bC c) 0 = Finset.univ := by
  dsimp only [sched]; rw [if_pos ⟨rfl, rfl⟩]; exact if_pos rfl
theorem duties_dma (c : Dev nD) (s : DmaSem sig) (hs : 7 ≤ s.val) : (sched m).duties (dC c s) 0 = {false} := by
  dsimp only [sched]; rw [if_pos ⟨rfl, rfl⟩]; exact if_pos hs
theorem duties_later (g : GSem nD τ sig) : ∀ r, 1 ≤ r → (sched m).duties g r = ∅ :=
  fun r hr => by dsimp only [sched]; exact if_neg fun h => by omega
theorem expect_bar (c : Dev nD) : (sched m).expect (bC c) 0 = 2 := by
  unfold Schedule.expect Schedule.amountOf
  rw [duties_bar]; rfl
theorem expect_dma (c : Dev nD) (s : DmaSem sig) (hs : 7 ≤ s.val) : (sched m).expect (dC c s) 0 = N := by
  unfold Schedule.expect Schedule.amountOf
  rw [duties_dma m c s hs, Finset.sum_singleton]; rfl
theorem rest_bar (c : Dev nD) :
    bigSep ((sched m).duties (bC c) 0 \ ∅) (fun d => (sched m).payload (bC c) 0 d) = iprop(barPay (F := F) c false ∗ barPay c true) := by
  rw [Finset.sdiff_empty, duties_bar, bigSep_univ_eq_bigSepL [false, true] (by decide) (by decide), bigSepL_cons_cons, bigSepL_singleton]
  rfl
theorem rest_dma (c : Dev nD) (s : DmaSem sig) (hs : 7 ≤ s.val) :
    bigSep ((sched m).duties (dC c s) 0 \ ∅) (fun d => (sched m).payload (dC c s) 0 d) = dmaPay m c s.val := by
  rw [Finset.sdiff_empty, duties_dma m c s hs, bigSep_singleton]; rfl

/-! ## What a device owes, and the levels -/

/-- The cells device `c` pays in program order, with the amounts. -/
abbrev owedL (c : Dev nD) : List (GSem nD τ sig × ℕ) :=
  [(bC (prv c), 1), (bC (nxt c), 1), (dC (nxt c) (q 10), N), (dC (prv c) (q 16), N), (dC (nxt c) (q 11), N), (dC (prv c) (q 17), N),
    (dC (nxt c) (q 12), N), (dC (prv c) (q 18), N)]

/-- The sum of a list of debts. -/
def debt : List (GSem nD τ sig × ℕ) → CellTallies nD τ sig Unit
  | [] => 0
  | p :: l => debt l + tallyAt p.1 () p.2

/-- What is still owed after the first `k` payments. -/
def O (c : Dev nD) (k : ℕ) : CellTallies nD τ sig Unit := debt ((owedL c).drop k)

theorem debt_pos {l : List (GSem nD τ sig × ℕ)} {g : GSem nD τ sig} {u : Unit} (h : 0 < debt l g u) : ∃ p ∈ l, g = p.1 := by
  induction l with
  | nil => exact absurd h (Nat.lt_irrefl 0)
  | cons p l ih =>
    unfold debt at h
    rw [Pi.add_apply, Finsupp.add_apply, tallyAt_apply] at h
    by_cases hg : g = p.1
    · exact ⟨p, List.mem_cons_self, hg⟩
    · rw [if_neg (fun h' => hg h'.1), Nat.add_zero] at h
      obtain ⟨p', hp', h'⟩ := ih h
      exact ⟨p', List.mem_cons_of_mem _ hp', h'⟩

def L (g : GSem nD τ sig) : Finset Unit := if g.1.2 = .tc then {()} else ∅
/-- The barrier is at level 1, the receive cell of step `h` at level `2 + h`, everything else at level 0. -/
def lv (g : GSem nD τ sig) (_ : Unit) : ℕ :=
  match g.2 with
  | .reg _ => 1
  | .dma s => match s.val with | 10 => 2 | 11 => 3 | 12 => 4 | 16 => 2 | 17 => 3 | 18 => 4 | _ => 0

theorem L_of_ne (g : GSem nD τ sig) (h : g.1.2 ≠ .tc) : L g = ∅ := if_neg h
theorem L_tc (c : Dev nD) (sm : SemLoc sig) : L ((c : Thread nD τ), sm) = {()} := if_pos rfl

theorem owedL_tc (c : Dev nD) : ∀ p ∈ owedL c, p.1.1.2 = .tc := by
  intro p hp
  simp only [owedL, List.mem_cons, List.not_mem_nil, or_false] at hp
  rcases hp with rfl | rfl | rfl | rfl | rfl | rfl | rfl | rfl <;> rfl

/-- A wait is allowed when its cell's level is below those of every cell still owed. -/
theorem mayWait (c : Dev nD) (sm : SemLoc sig) (k : ℕ)
    (h : ((owedL c).drop k).all (fun p => decide (lv ((c : Thread nD τ), sm) () < lv p.1 ())) = true) :
    (levAts L lv : sProp 𝕄) ⊢ MayWait (c : Thread nD τ) sm () (O c k) :=
  Pipeline.mayWait_of_levAts (by rw [L_tc]; exact Finset.mem_singleton_self _) (fun g u hg => by
    obtain ⟨p, hp, rfl⟩ := debt_pos hg
    refine ⟨?_, of_decide_eq_true (List.all_eq_true.mp h p hp)⟩
    unfold L; rw [if_pos (owedL_tc c p (List.mem_of_mem_drop hp))]; exact Finset.mem_singleton_self _)

/-- Device `c` owing what is left after `k` payments. -/
def ow (c : Dev nD) (k : ℕ) : sProp 𝕄 := iprop(∃ W, owes (c : Thread nD τ) (O c k) W)

/-! ## What every device knows -/

/-- The cells the ring runs on: of each device the barrier (number 0) and the twelve copies' semaphores. -/
abbrev ksem : Fin 13 → SemLoc sig
  | ⟨0, _⟩ => .reg barS
  | ⟨k + 1, h⟩ => .dma ⟨7 + k, show 7 + k < 19 by omega⟩
abbrev kcell (ck : Dev nD × Fin 13) : GSem nD τ sig := ((ck.1 : Thread nD τ), ksem ck.2)

/-- Every cell's invariant, under the names `K`; every cell at its round 0; the levels. -/
def env (K : Dev nD × Fin 13 → ℕ) : sProp 𝕄 :=
  iprop(((bigSep Finset.univ fun ck : Dev nD × Fin 13 => cellInv ER (sched m) (K ck) (kcell ck))
    ∗ (bigSep Finset.univ fun ck : Dev nD × Fin 13 => reached ER (kcell ck) 0)) ∗ levAts L lv)

instance env_persistent (K : Dev nD × Fin 13 → ℕ) : BI.Persistent (env m K) := by unfold env; infer_instance

theorem env_inv (K : Dev nD × Fin 13 → ℕ) (ck : Dev nD × Fin 13) : env m K ⊢ cellInv ER (sched m) (K ck) (kcell ck) := by
  unfold env; iintro ⟨⟨H, -⟩, -⟩
  iapply (show (bigSep Finset.univ fun ck : Dev nD × Fin 13 => (cellInv ER (sched m) (K ck) (kcell ck) : sProp 𝕄))
    ⊢ cellInv ER (sched m) (K ck) (kcell ck) from bigSep_elim (Finset.mem_univ ck)) $$ H
theorem env_reached (K : Dev nD × Fin 13 → ℕ) (ck : Dev nD × Fin 13) : env m K ⊢ reached ER (kcell ck) 0 := by
  unfold env; iintro ⟨⟨-, H⟩, -⟩
  iapply (show (bigSep Finset.univ fun ck : Dev nD × Fin 13 => (reached ER (kcell ck) 0 : sProp 𝕄))
    ⊢ reached ER (kcell ck) 0 from bigSep_elim (Finset.mem_univ ck)) $$ H
theorem env_lev (K : Dev nD × Fin 13 → ℕ) : env m K ⊢ levAts L lv := by
  unfold env; iintro ⟨-, H⟩; iexact H

end Cert.RingProof

end
-- ==== Proof.Comm.lean ====
/-
# Comm: the rules for signals, copies to a neighbour and waits, at the ring's cells

Each rule takes what the step needs from `env` (the invariants, the rounds, the levels) and moves `ow c k`, the count of
debts paid so far.
-/
module

public import proofs.«01_k».proof.Proof.Protocol

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)
  {α : Type} {Q : α → sProp (MT nD τ sig Unit (Elt F) ℕ UU ℕ)}

/-- The wait on a local copy: what it was to hand over, and its semaphore at zero again. -/
theorem wait_local {sp sp' : Space} {s s' : Shape} {e e' : EltTy} {srcw : Memref sig .tc sp' s' e'} {dstw : Memref sig .tc sp s e}
    {sm : DmaSem sig} {hsrc : srcw.view.WordExact} {hdst : dstw.view.WordExact}
    {k : PUnit → Prog (TpuEff nD τ sig (Elt F) Λ₀ .tc) α} {n : ℕ} {D : sProp 𝕄} (j : ℕ) (hn : dstw.view.dmaCredit = n)
    (hl : ((owedL c).drop j).all (fun p => decide (lv (dC c sm) () < lv p.1 ())) = true) :
    iprop(env m K ∗ ow c j ∗ flight c sm n D)
      ⊢ iprop(((ow c j ∗ D ∗ semVal (dC c sm) 0) -∗ wpc c (k ⟨⟩) Q) -∗ wpc c (.op (.waitDma2 sm srcw dstw hsrc hdst) k) Q) := by
  unfold ow
  iintro ⟨#He, ⟨%W, HO⟩, Hf⟩ Hk
  iapply (Transfers.wp_waitLocalO EC 𝒱₀ (c : Thread nD τ) none () hn) $$ [HO Hf]
  · isplitl [Hf]; · iexact Hf
    isplitl [HO]; · iexact HO
    iapply (mayWait c (.dma sm) j hl)
    iapply (env_lev m K); iexact He
  iintro ⟨HD, Hv, HO⟩
  iapply Hk
  isplitl [HO]; · iexists _; iexact HO
  isplitl [HD] <;> iassumption

/-- The wait on one of the twelve copies' cells: the cell's payload, and its semaphore at zero, for good. -/
theorem wait_cell {sp sp' : Space} {s s' : Shape} {e e' : EltTy} {srcw : Memref sig .tc sp' s' e'} {dstw : Memref sig .tc sp s e}
    (i : Fin 12) {hsrc : srcw.view.WordExact} {hdst : dstw.view.WordExact}
    {k : PUnit → Prog (TpuEff nD τ sig (Elt F) Λ₀ .tc) α} (j : ℕ) (hn : dstw.view.dmaCredit = N)
    (hl : ((owedL c).drop j).all (fun p => decide (lv (dC c ⟨7 + i.val, show 7 + i.val < 19 by omega⟩) () < lv p.1 ())) = true) :
    iprop(env m K ∗ ow c j ∗ cred (tallyAt (dC c ⟨7 + i.val, show 7 + i.val < 19 by omega⟩) () N)
        ∗ atPos ER (dC c ⟨7 + i.val, show 7 + i.val < 19 by omega⟩) 0 ∅ 0)
      ⊢ iprop(((ow c j ∗ dmaPay m c (7 + i.val) ∗ semVal (dC c ⟨7 + i.val, show 7 + i.val < 19 by omega⟩) 0) -∗ wpc c (k ⟨⟩) Q)
          -∗ wpc c (.op (.waitDma2 (⟨7 + i.val, show 7 + i.val < 19 by omega⟩ : DmaSem sig) srcw dstw hsrc hdst) k) Q) := by
  have hinv : env m K ⊢ cellInv ER (sched m) (K (c, i.succ)) (dC c ⟨7 + i.val, show 7 + i.val < 19 by omega⟩) := env_inv m K (c, i.succ)
  unfold ow
  iintro ⟨#He, ⟨%W, HO⟩, Hcr, Hat⟩ Hk
  ihave #Hinv := hinv $$ He
  iapply (Rounds.wp_wait_rest_token 𝒱₀ ER (sched m) (c : Thread nD τ) none (κ := K (c, i.succ))
      (wpE_waitDma2_eq 𝒱₀ (c : Thread nD τ) none Set.univ) (Set.mem_univ _) () (O := O c j) (W := W) (R := 0) (m := 0) (T := ∅)
      (by rw [Nat.zero_add, expect_dma m c _ (Nat.le_add_right 7 i.val), hn])) $$ [Hcr HO Hat]
  · isplitr; · iexact Hinv
    isplitl [Hcr]; · rw [hn]; iexact Hcr
    isplitl [HO]; · iexact HO
    isplitr
    · iapply (mayWait c (.dma ⟨7 + i.val, show 7 + i.val < 19 by omega⟩) j hl)
      iapply (env_lev m K); iexact He
    iexact Hat
  iintro ⟨HO, Hat, -, Hpay⟩
  ihave Hpay := (Entails.of_eq (rest_dma m c _ (Nat.le_add_right 7 i.val))) $$ Hpay
  imod (Rounds.cell_close ER (sched m) (Set.mem_univ (K (c, i.succ))) (fun h => h) (R := 0 + 1) (duties_later m _)) $$ [Hat] with Hz
  · isplitr; · iexact Hinv
    iexact Hat
  iapply Hk
  isplitl [HO]; · iexists _; iexact HO
  isplitl [Hpay] <;> iassumption

/-- The first signal: the device's own `cw` slots go to the left neighbour. -/
theorem signal_left {n : Dev nD} (hn : n = prv c) {k : PUnit → Prog (TpuEff nD τ sig (Elt F) Λ₀ .tc) α} {v : ℕ} (hv : v = 1) :
    iprop(env m K ∗ ow c 0 ∗ dutyTok ER (bC (prv c)) 0 false ∗ free c cw0 ∗ free c cw1 ∗ free c cw2)
      ⊢ iprop((ow c 1 -∗ wpc c (k ⟨⟩) Q) -∗ wpc c (.op (.semSignal (n : Thread nD τ) barS v) k) Q) := by
  subst hn; subst hv
  have hinv : env m K ⊢ cellInv ER (sched m) (K (prv c, 0)) (bC (prv c)) := env_inv m K (prv c, 0)
  have hre : env m K ⊢ reached ER (bC (prv c)) 0 := env_reached m K (prv c, 0)
  unfold ow
  iintro ⟨#He, ⟨%W, HO⟩, Ht, Hs⟩ Hk
  iapply (Rounds.wp_signal 𝒱₀ ER (sched m) (c : Thread nD τ) none (dst := (prv c : Thread nD τ)) (κ := K (prv c, 0))
      (d := false) (by rw [duties_bar]; exact Finset.mem_univ _) rfl () (O c 1) rfl) $$ [HO Ht Hs]
  · isplitr; · iapply hinv; iexact He
    isplitl [HO]; · iexact HO
    isplitl [Ht]; · iexact Ht
    isplitl [Hs]
    · rw [show (sched m).payload (bC (prv c)) 0 false = iprop(free (nxt (prv c)) cw0 ∗ free (nxt (prv c)) cw1 ∗ free (nxt (prv c)) cw2) from rfl, nxt_prv]
      iexact Hs
    iapply hre; iexact He
  iintro HO
  iapply Hk
  iexists W; iexact HO

/-- The second signal: the device's own `ccw` slots go to the right neighbour. -/
theorem signal_right {n : Dev nD} (hn : n = nxt c) {k : PUnit → Prog (TpuEff nD τ sig (Elt F) Λ₀ .tc) α} {v : ℕ} (hv : v = 1) :
    iprop(env m K ∗ ow c 1 ∗ dutyTok ER (bC (nxt c)) 0 true ∗ free c ccw0 ∗ free c ccw1 ∗ free c ccw2)
      ⊢ iprop((ow c 2 -∗ wpc c (k ⟨⟩) Q) -∗ wpc c (.op (.semSignal (n : Thread nD τ) barS v) k) Q) := by
  subst hn; subst hv
  have hinv : env m K ⊢ cellInv ER (sched m) (K (nxt c, 0)) (bC (nxt c)) := env_inv m K (nxt c, 0)
  have hre : env m K ⊢ reached ER (bC (nxt c)) 0 := env_reached m K (nxt c, 0)
  unfold ow
  iintro ⟨#He, ⟨%W, HO⟩, Ht, Hs⟩ Hk
  iapply (Rounds.wp_signal 𝒱₀ ER (sched m) (c : Thread nD τ) none (dst := (nxt c : Thread nD τ)) (κ := K (nxt c, 0))
      (d := true) (by rw [duties_bar]; exact Finset.mem_univ _) rfl () (O c 2) rfl) $$ [HO Ht Hs]
  · isplitr; · iapply hinv; iexact He
    isplitl [HO]; · iexact HO
    isplitl [Ht]; · iexact Ht
    isplitl [Hs]
    · rw [show (sched m).payload (bC (nxt c)) 0 true = iprop(free (prv (nxt c)) ccw0 ∗ free (prv (nxt c)) ccw1 ∗ free (prv (nxt c)) ccw2) from rfl, prv_nxt]
      iexact Hs
    iapply hre; iexact He
  iintro HO
  iapply Hk
  iexists W; iexact HO

/-- The barrier's wait: the right neighbour's `cw` slots and the left neighbour's `ccw` slots. -/
theorem wait_bar {k : PUnit → Prog (TpuEff nD τ sig (Elt F) Λ₀ .tc) α} {v : ℕ} (hv : v = 2) :
    iprop(env m K ∗ ow c 2 ∗ cred (tallyAt (bC c) () 2) ∗ atPos ER (bC c) 0 ∅ 0)
      ⊢ iprop(((ow c 2 ∗ barPay c false ∗ barPay c true ∗ semVal (bC c) 0) -∗ wpc c (k ⟨⟩) Q) -∗ wpc c (.op (.semWait barS v) k) Q) := by
  subst hv
  have hinv : env m K ⊢ cellInv ER (sched m) (K (c, 0)) (bC c) := env_inv m K (c, 0)
  unfold ow
  iintro ⟨#He, ⟨%W, HO⟩, Hcr, Hat⟩ Hk
  ihave #Hinv := hinv $$ He
  iapply (Rounds.wp_wait_rest_token 𝒱₀ ER (sched m) (c : Thread nD τ) none (κ := K (c, 0))
      (wpE_semWait_eq 𝒱₀ (c : Thread nD τ) none Set.univ) (Set.mem_univ _) () (O := O c 2) (W := W) (R := 0) (m := 0) (T := ∅)
      (by rw [Nat.zero_add, expect_bar])) $$ [Hcr HO Hat]
  · isplitr; · iexact Hinv
    isplitl [Hcr]; · iexact Hcr
    isplitl [HO]; · iexact HO
    isplitr
    · iapply (mayWait c (.reg barS) 2 rfl)
      iapply (env_lev m K); iexact He
    iexact Hat
  iintro ⟨HO, Hat, -, Hpay⟩
  ihave Hpay := (Entails.of_eq (rest_bar m c)) $$ Hpay
  icases Hpay with ⟨Hp0, Hp1⟩
  imod (Rounds.cell_close ER (sched m) (Set.mem_univ (K (c, 0))) (fun h => h) (R := 0 + 1) (duties_later m _)) $$ [Hat] with Hz
  · isplitr; · iexact Hinv
    iexact Hat
  iapply Hk
  isplitl [HO]; · iexists _; iexact HO
  isplitl [Hp0]; · iexact Hp0
  isplitl [Hp1] <;> iassumption

/-- A copy to a neighbour `d`: the source's share is lent until the send cell is waited on, the landing slot's new contents
    are the receive cell's payload on `d`. -/
theorem send {sp sp' : Space} {s : Shape} {e : EltTy} {src : Memref sig .tc sp s e} {dst : Memref sig .tc sp' s e}
    (d : Dev nD) {n : Dev nD} (hn : n = d) (i i' : Fin 12) {hsc : dst.view.ref.isScScratch = false}
    {hsrc : src.view.WordExact} {hdst : dst.view.WordExact}
    {hsem : DmaTarget.Typed sp (.dma (⟨7 + i'.val, show 7 + i'.val < 19 by omega⟩ : DmaSem sig))
      (.remote (p := (c : Thread nD τ).2) (Dev.tc n : Thread nD τ) dst (.dma (⟨7 + i.val, show 7 + i.val < 19 by omega⟩ : DmaSem sig)) hsc)}
    {k : PUnit → Prog (TpuEff nD τ sig (Elt F) Λ₀ .tc) α} {q' : PosShare TreeShare} {X : s.Idx → Elt F e} (j : ℕ)
    (hN : dst.view.dmaCredit = N)
    (hO : O c j = O c (j + 1) + tallyAt (dC d ⟨7 + i'.val, show 7 + i'.val < 19 by omega⟩) () N)
    (hp : own c src q' X ⊢ dmaPay m c (7 + i.val)) (hp' : own d dst fullShare X ⊢ dmaPay m d (7 + i'.val)) :
    iprop(env m K ∗ ow c j ∗ own c src q' X ∗ free d dst
        ∗ dutyTok ER (dC c ⟨7 + i.val, show 7 + i.val < 19 by omega⟩) 0 false ∗ dutyTok ER (dC d ⟨7 + i'.val, show 7 + i'.val < 19 by omega⟩) 0 false)
      ⊢ iprop(((ow c (j + 1) ∗ cred (tallyAt (dC c ⟨7 + i.val, show 7 + i.val < 19 by omega⟩) () N)) -∗ wpc c (k ⟨⟩) Q)
          -∗ wpc c (.op (.enqueueDma src (.remote (Dev.tc n : Thread nD τ) dst (.dma (⟨7 + i.val, show 7 + i.val < 19 by omega⟩ : DmaSem sig)) hsc)
              (.dma (⟨7 + i'.val, show 7 + i'.val < 19 by omega⟩ : DmaSem sig)) hsrc hdst hsem) k) Q) := by
  subst hn
  have hi : env m K ⊢ cellInv ER (sched m) (K (c, i.succ)) (dC c ⟨7 + i.val, show 7 + i.val < 19 by omega⟩) := env_inv m K (c, i.succ)
  have hi' : env m K ⊢ cellInv ER (sched m) (K (n, i'.succ)) (dC n ⟨7 + i'.val, show 7 + i'.val < 19 by omega⟩) := env_inv m K (n, i'.succ)
  have hr : env m K ⊢ reached ER (dC c ⟨7 + i.val, show 7 + i.val < 19 by omega⟩) 0 := env_reached m K (c, i.succ)
  have hr' : env m K ⊢ reached ER (dC n ⟨7 + i'.val, show 7 + i'.val < 19 by omega⟩) 0 := env_reached m K (n, i'.succ)
  unfold ow
  iintro ⟨#He, ⟨%W, HO⟩, Hs, Hd, Ht, Ht'⟩ Hk
  ihave Hs := (show own c src q' X ⊢ iprop(∃ f, ⌜src.view.read (Elt F) f = X⌝ ∗ (src.view.loc (c : Thread nD τ) ↦[src.view.set]{q'} f)) from .rfl) $$ Hs
  icases Hs with ⟨%f, %hf, Hs⟩
  unfold free
  icases Hd with ⟨%g, Hd⟩
  iapply (Rounds.wp_send_pointsTo 𝒱₀ ER (sched m) (c : Thread nD τ) none (κ₁ := K (c, i.succ)) (κ₂ := K (n, i'.succ))
      (r₁ := 0) (r₂ := 0) (d₁ := false) (d₂ := false) (fd := g)
      (by rw [duties_dma m c _ (Nat.le_add_right 7 i.val)]; exact Finset.mem_singleton_self _)
      (by rw [duties_dma m n _ (Nat.le_add_right 7 i'.val)]; exact Finset.mem_singleton_self _)
      () () N (show dst.view.amount (.dma (⟨7 + i'.val, show 7 + i'.val < 19 by omega⟩ : DmaSem sig)) = N from hN) rfl rfl (O c (j + 1)) hO (W := W)
      (by
        subst hf
        exact (owns_intro (Val := Elt F) (c : Thread nD τ) src q' f).trans hp)
      (by
        subst hf
        refine BIBase.Entails.trans ?_ hp'
        unfold own owns
        iintro H
        iexists (dst.view.write (Elt F) g (src.view.read (Elt F) f) Finset.univ)
        isplitr; · (ipureintro; exact View.read_write_univ _ _)
        iexact H)) $$ [HO Hs Hd Ht Ht']
  · isplitr; · iapply hi; iexact He
    isplitr; · iapply hi'; iexact He
    isplitl [Hs]; · iexact Hs
    isplitl [Hd]; · iexact Hd
    isplitl [HO]; · iexact HO
    isplitl [Ht]; · iexact Ht
    isplitr; · iapply hr; iexact He
    isplitl [Ht']; · iexact Ht'
    iapply hr'; iexact He
  iintro ⟨Hcr, HO⟩
  iapply Hk
  isplitl [HO]; · iexists W; iexact HO
  iexact Hcr

end Cert.RingProof

end
-- ==== Proof.Contents.lean ====
/-
# Contents: what every buffer holds, and that the kernel's arithmetic produces it

* `W8`: a device's columns of the weights, in fp8; `wRow n` its n-th block of rows, what the n-th staging of weights leaves.
* `sc`: the product of the two scales.
* `outBlk s x w`: one tile of the result, `max ((x · w) * s) 0`.
* `tX n`, `outT n`: the rows of `x` that tile number `n` uses, and that tile; `outAll`: the whole result of a device.
-/
module

public import proofs.«01_k».proof.Proof.Protocol
public import Idealize.ShloMosaic.Lib.Pipeline.ValueKit.Geometry

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI

variable {F : FTy → Type} [FloatOps F]
variable (m : (ℓ : Loc nD τ sig) → Buf (Elt F) ℓ)

/-! ## The weights -/

/-- the eight chunks of the weights in the order device `c` stages them; -/
abbrev rC (c : Dev nD) : Fin 8 → Rect S4096x8192
  | 0 => Rect.unit (s := S4096x8192) (k0_off1 c) S512x2048.size (k0_off1_inb c)
  | 1 => Rect.unit (s := S4096x8192) (k0_off2 c) S512x2048.size (k0_off2_inb c)
  | 2 => Rect.unit (s := S4096x8192) (k0_off3 c) S512x2048.size (k0_off3_inb c)
  | 3 => Rect.unit (s := S4096x8192) (k0_off4 c) S512x2048.size (k0_off4_inb c)
  | 4 => Rect.unit (s := S4096x8192) (k0_off5 c) S512x2048.size (k0_off5_inb c)
  | 5 => Rect.unit (s := S4096x8192) (k0_off6 c) S512x2048.size (k0_off6_inb c)
  | 6 => Rect.unit (s := S4096x8192) (k0_off7 c) S512x2048.size (k0_off7_inb c)
  | 7 => Rect.unit (s := S4096x8192) (k0_off8 c) S512x2048.size (k0_off8_inb c)

/-- a chunk of the weights, before the cast; -/
def wChunk (c : Dev nD) (n : Fin 8) : S512x2048.Idx → Elt F .f32 :=
  match n with
  | 0 => fun j => warr m c ((rC c 0).emb j) | 1 => fun j => warr m c ((rC c 1).emb j)
  | 2 => fun j => warr m c ((rC c 2).emb j) | 3 => fun j => warr m c ((rC c 3).emb j)
  | 4 => fun j => warr m c ((rC c 4).emb j) | 5 => fun j => warr m c ((rC c 5).emb j)
  | 6 => fun j => warr m c ((rC c 6).emb j) | 7 => fun j => warr m c ((rC c 7).emb j)

theorem wCol_inb (c : Dev nD) : ∀ a, (![0, 2048 * c.val] : Fin 2 → ℕ) a + S4096x2048.size a ≤ S4096x8192.size a := by
  revert c; decide +kernel

/-- the columns device `c` multiplies by; -/
abbrev rCol (c : Dev nD) : Rect S4096x8192 := Rect.unit (s := S4096x8192) ![0, 2048 * c.val] S4096x2048.size (wCol_inb c)

/-- those columns, -/
def wCols (c : Dev nD) : FVec F S4096x2048 .f32 := fun i => warr m c ((rCol c).emb i)
/-- in fp8. -/
def W8 (c : Dev nD) : FVec F S4096x2048 .fp8e5m2 := truncf .fp8e5m2 (wCols m c) bitsLt_fp8e5m2_f32

/-- Row block `n` of the cast weights. -/
def wRow (c : Dev nD) (n : Fin 8) : S512x2048.Idx → Elt F .fp8e5m2 :=
  match n with
  | 0 => fun j => W8 m c ((rW 0).emb j) | 1 => fun j => W8 m c ((rW 1).emb j)
  | 2 => fun j => W8 m c ((rW 2).emb j) | 3 => fun j => W8 m c ((rW 3).emb j)
  | 4 => fun j => W8 m c ((rW 4).emb j) | 5 => fun j => W8 m c ((rW 5).emb j)
  | 6 => fun j => W8 m c ((rW 6).emb j) | 7 => fun j => W8 m c ((rW 7).emb j)

/-- A chunk sits in the weights where its block of rows sits in the device's columns. -/
theorem chunk_at (c : Dev nD) (k : ℕ) {offC : Fin 2 → ℕ} (inbC : ∀ a, offC a + S512x2048.size a ≤ S4096x8192.size a)
    {offW : Fin 2 → ℕ} (inbW : ∀ a, offW a + S512x2048.size a ≤ S4096x2048.size a)
    (hC : offC = ![k, 2048 * c.val]) (hW : offW = ![k, 0]) (j : S512x2048.Idx) :
    (Rect.unit (s := S4096x8192) offC S512x2048.size inbC).emb j = (rCol c).emb ((Rect.unit (s := S4096x2048) offW S512x2048.size inbW).emb j) := by
  subst hC hW
  funext a
  apply Fin.ext
  rw [ValueKit.rect_emb_unit_val, ValueKit.rect_emb_unit_val, ValueKit.rect_emb_unit_val]
  match a with
  | ⟨0, _⟩ => show k + _ = 0 + (k + _); omega
  | ⟨1, _⟩ => show 2048 * c.val + _ = 2048 * c.val + (0 + _); omega

/-- The cast of elements of the weights that lie in the device's columns. -/
theorem trunc_at (c : Dev nD) {eC : S512x2048.Idx → S4096x8192.Idx} {eW : S512x2048.Idx → S4096x2048.Idx}
    (h : ∀ j, eC j = (rCol c).emb (eW j)) :
    truncf .fp8e5m2 (fun j => warr m c (eC j) : FVec F S512x2048 .f32) bitsLt_fp8e5m2_f32 = fun j => W8 m c (eW j) :=
  congrArg (fun X : FVec F S512x2048 .f32 => truncf .fp8e5m2 X bitsLt_fp8e5m2_f32) (funext fun j => congrArg (warr m c) (h j))

/-- Casting a chunk gives its block of rows of the cast weights. -/
theorem trunc_chunk (c : Dev nD) (n : Fin 8) :
    truncf .fp8e5m2 (wChunk m c n : FVec F S512x2048 .f32) bitsLt_fp8e5m2_f32 = wRow m c n := by
  match n with
  | 0 => exact trunc_at m c (chunk_at c 0 _ _ (k0_off1_eq c) rfl)
  | 1 => exact trunc_at m c (chunk_at c 512 _ _ (k0_off2_eq c) rfl)
  | 2 => exact trunc_at m c (chunk_at c 1024 _ _ (k0_off3_eq c) rfl)
  | 3 => exact trunc_at m c (chunk_at c 1536 _ _ (k0_off4_eq c) rfl)
  | 4 => exact trunc_at m c (chunk_at c 2048 _ _ (k0_off5_eq c) rfl)
  | 5 => exact trunc_at m c (chunk_at c 2560 _ _ (k0_off6_eq c) rfl)
  | 6 => exact trunc_at m c (chunk_at c 3072 _ _ (k0_off7_eq c) rfl)
  | 7 => exact trunc_at m c (chunk_at c 3584 _ _ (k0_off8_eq c) rfl)

/-- The stored value of a staged chunk. -/
def castW (v : Vec F S1x512x2048 .f32) : FVec F S512x2048 .fp8e5m2 :=
  shapeCast S512x2048 (truncf .fp8e5m2 (shapeCast S512x2048 v shapeCasts_S1x512x2048_S512x2048) bitsLt_fp8e5m2_f32) shapeCasts_S512x2048_S512x2048

/-- What is stored for a staged chunk is its block of rows of the cast weights. -/
theorem castW_eq (c : Dev nD) (n : Fin 8) (v : Vec F S1x512x2048 .f32)
    (h : shapeCast S512x2048 v shapeCasts_S1x512x2048_S512x2048 = wChunk m c n) : castW v = wRow m c n := by
  unfold castW
  rw [shapeCast_self, h, trunc_chunk]

/-! ## The scale -/

/-- The product of the two scales, as the kernel reads them. -/
def sc (c : Dev nD) : F .f32 :=
  k0_pay10 (sxstg m c (Shape.Idx.first (numel1_S1.symm ▸ Nat.one_pos))) (swstg m c (Shape.Idx.first (numel1_S1.symm ▸ Nat.one_pos)))

/-! ## A tile of the result -/

/-- `max ((x · w) * s) 0`. -/
def outBlk (s : F .f32) (x : FVec F S512x4096 .fp8e5m2) (w : FVec F S4096x2048 .fp8e5m2) : FVec F S512x2048 .f32 :=
  maximumf (mulf (matmul dot_S512x4096_S4096x2048_S512x2048_1_0_0_1_n_n none x w (constant S512x2048 .f32 0x00000000#32)) (broadcast S512x2048 s))
    (broadcast S512x2048 (Scalar.ofBits .f32 0x00000000#32))

/-- Storing a tile with its unit axis and dropping the axis gives the tile back. -/
theorem outBlk_cast (t : FVec F S512x2048 .f32) :
    shapeCast S512x2048 (shapeCast S1x512x2048 t shapeCasts_S512x2048_S1x512x2048) shapeCasts_S1x512x2048_S512x2048 = t :=
  shapeCast_shapeCast t _ _

variable (s : F .f32) (x : FVec F S512x4096 .fp8e5m2) (w : FVec F S4096x2048 .fp8e5m2)
  (v : Vec F S1x512x4096 .fp8e5m2) (h : shapeCast S512x4096 v shapeCasts_S1x512x4096_S512x4096 = x)

/-! Every value stored into an output slot is a tile. -/

theorem pay11_eq : shapeCast S512x2048 (k0_pay11 s x w) shapeCasts_S1x512x2048_S512x2048 = outBlk s x w := outBlk_cast _
theorem pay12_eq : shapeCast S512x2048 (k0_pay12 s x w) shapeCasts_S1x512x2048_S512x2048 = outBlk s x w := outBlk_cast _
theorem pay15_eq : shapeCast S512x2048 (k0_pay15 s x w) shapeCasts_S1x512x2048_S512x2048 = outBlk s x w := outBlk_cast _
theorem pay17_eq : shapeCast S512x2048 (k0_pay17 s x w (constant S512x2048 .f32 0x00000000#32)) shapeCasts_S1x512x2048_S512x2048 = outBlk s x w := outBlk_cast _
include h
theorem pay13_eq : shapeCast S512x2048 (k0_pay13 s v w) shapeCasts_S1x512x2048_S512x2048 = outBlk s x w := by
  subst h; exact outBlk_cast _
theorem pay18_eq : shapeCast S512x2048 (k0_pay18 s v w) shapeCasts_S1x512x2048_S512x2048 = outBlk s x w := by
  subst h; exact outBlk_cast _
theorem pay20_eq : shapeCast S512x2048 (k0_pay20 (k0_pay19 s v w)) shapeCasts_S1x512x2048_S512x2048 = outBlk s x w := by
  subst h; exact outBlk_cast _
theorem pay21_eq : shapeCast S512x2048 (k0_pay21 s v w) shapeCasts_S1x512x2048_S512x2048 = outBlk s x w := by
  subst h; exact outBlk_cast _
omit h

/-! ## The whole result of a device -/

/-- The rows of `x` that tile number `n` of device `c` uses. -/
def tX (c : Dev nD) (n : Fin 8) : S512x4096.Idx → Elt F .fp8e5m2 :=
  match n with
  | 0 => xT m c | 1 => xB m c | 2 => xT m (prv c) | 3 => xB m (nxt c) | 4 => xT m (prv (prv c)) | 5 => xB m (nxt (nxt c))
  | 6 => xT m (prv (prv (prv c))) | 7 => xB m (nxt (nxt (nxt c)))

/-- Tile number `n` of device `c`. -/
def outT (c : Dev nD) (n : Fin 8) : S512x2048.Idx → Elt F .f32 := outBlk (sc m c) (tX m c n) (W8 m c)

/-- Half block `k` of `x`, the halves of the devices' blocks in the order of the rows. -/
def half (k : ℕ) : S512x4096.Idx → Elt F .fp8e5m2 :=
  if k % 2 = 0 then xT m ⟨k / 2 % 4, Nat.mod_lt _ (by decide)⟩ else xB m ⟨k / 2 % 4, Nat.mod_lt _ (by decide)⟩

theorem half_even (d : Dev nD) : half m (2 * d.val) = xT m d := by
  unfold half
  rw [if_pos (by omega)]
  exact congrArg (xT m) (Fin.ext (show 2 * d.val / 2 % 4 = d.val by have : d.val < 4 := d.isLt; omega))
theorem half_odd (d : Dev nD) : half m (2 * d.val + 1) = xB m d := by
  unfold half
  rw [if_neg (by omega)]
  exact congrArg (xB m) (Fin.ext (show (2 * d.val + 1) / 2 % 4 = d.val by have : d.val < 4 := d.isLt; omega))

/-- Where an index of the result sits in its tile. -/
def inTile (i : S4096x2048.Idx) : S512x2048.Idx := fun a => match a with
  | ⟨0, _⟩ => ⟨(i 0).val % 512, Nat.mod_lt _ (by decide)⟩
  | ⟨1, _⟩ => ⟨(i 1).val, (i 1).isLt⟩

/-- The result of device `c`. -/
def outAll (c : Dev nD) : S4096x2048.Idx → Elt F .f32 :=
  fun i => outBlk (sc m c) (half m ((i 0).val / 512)) (W8 m c) (inTile i)

/-- A tile of the result whose rows begin at `512 * k` uses half block `k`. -/
theorem outAll_at (c : Dev nD) (k : ℕ) {off : Fin 2 → ℕ} (inb : ∀ a, off a + S512x2048.size a ≤ S4096x2048.size a)
    (ho : off = ![512 * k, 0]) {X : S512x4096.Idx → Elt F .fp8e5m2} (hX : half m k = X) (j : S512x2048.Idx) :
    outAll m c ((Rect.unit (s := S4096x2048) off S512x2048.size inb).emb j) = outBlk (sc m c) X (W8 m c) j := by
  subst ho hX
  have h0 : (((Rect.unit (s := S4096x2048) ![512 * k, 0] S512x2048.size inb).emb j 0 : Fin _) : ℕ) = 512 * k + (j 0).val :=
    ValueKit.rect_emb_unit_val _ _ _ _ _
  have h1 : (((Rect.unit (s := S4096x2048) ![512 * k, 0] S512x2048.size inb).emb j 1 : Fin _) : ℕ) = 0 + (j 1).val :=
    ValueKit.rect_emb_unit_val _ _ _ _ _
  have hj : (j 0).val < 512 := (j 0).isLt
  unfold outAll
  have hk : ((((Rect.unit (s := S4096x2048) ![512 * k, 0] S512x2048.size inb).emb j 0 : Fin _) : ℕ)) / 512 = k := by
    rw [h0]; omega
  rw [hk]
  refine congrArg _ (funext fun a => Fin.ext ?_)
  match a with
  | ⟨0, _⟩ => show (((Rect.unit (s := S4096x2048) ![512 * k, 0] S512x2048.size inb).emb j 0 : Fin _) : ℕ) % 512 = (j 0).val; rw [h0]; omega
  | ⟨1, _⟩ => show (((Rect.unit (s := S4096x2048) ![512 * k, 0] S512x2048.size inb).emb j 1 : Fin _) : ℕ) = (j 1).val; rw [h1]; omega

/-! Where the tiles begin. -/

theorem off9_rows : ∀ c : Dev nD, k0_off9 c = ![512 * (2 * c.val), 0] := by decide +kernel
theorem off10_rows : ∀ c : Dev nD, k0_off10 c = ![512 * (2 * c.val + 1), 0] := by decide +kernel
theorem off11_rows : ∀ c : Dev nD, k0_off11 c 1#32 = ![512 * (2 * (prv c).val), 0] := by decide +kernel
theorem off12_rows : ∀ c : Dev nD, k0_off12 c 1#32 = ![512 * (2 * (nxt c).val + 1), 0] := by decide +kernel
theorem off11_rows' : ∀ c : Dev nD, k0_off11 c 2#32 = ![512 * (2 * (prv (prv c)).val), 0] := by decide +kernel
theorem off12_rows' : ∀ c : Dev nD, k0_off12 c 2#32 = ![512 * (2 * (nxt (nxt c)).val + 1), 0] := by decide +kernel
theorem off13_rows : ∀ c : Dev nD, k0_off13 c = ![512 * (2 * (prv (prv (prv c))).val), 0] := by decide +kernel
theorem off14_rows : ∀ c : Dev nD, k0_off14 c = ![512 * (2 * (nxt (nxt (nxt c))).val + 1), 0] := by decide +kernel

/-- Every tile a device writes is its part of the device's result. -/
theorem outAll_tiles (c : Dev nD) :
    (∀ j, outAll m c ((rO c 0).emb j) = outT m c 0 j)
    ∧ (∀ j, outAll m c ((rO c 1).emb j) = outT m c 1 j)
    ∧ (∀ j, outAll m c ((rO c 2).emb j) = outT m c 2 j)
    ∧ (∀ j, outAll m c ((rO c 3).emb j) = outT m c 3 j)
    ∧ (∀ j, outAll m c ((rO c 4).emb j) = outT m c 4 j)
    ∧ (∀ j, outAll m c ((rO c 5).emb j) = outT m c 5 j)
    ∧ (∀ j, outAll m c ((rO c 6).emb j) = outT m c 6 j)
    ∧ (∀ j, outAll m c ((rO c 7).emb j) = outT m c 7 j) :=
  ⟨outAll_at m c _ _ (off9_rows c) (half_even m _),
    outAll_at m c _ _ (off10_rows c) (half_odd m _),
    outAll_at m c _ _ (off11_rows c) (half_even m _),
    outAll_at m c _ _ (off12_rows c) (half_odd m _),
    outAll_at m c _ _ (off11_rows' c) (half_even m _),
    outAll_at m c _ _ (off12_rows' c) (half_odd m _),
    outAll_at m c _ _ (off13_rows c) (half_even m _),
    outAll_at m c _ _ (off14_rows c) (half_odd m _)⟩

end Cert.RingProof

end
-- ==== Proof.Moves.lean ====
/-
# Moves: the few operations in a row that the kernel repeats

Loads and stores of a whole memref, the staging of one chunk of weights (wait, load, cast, store), and the semaphores by
number.
-/
module

public import proofs.«01_k».proof.Proof.Comm
public import proofs.«01_k».proof.Proof.Contents
public import Idealize.ShloMosaic.Lib.VecWindow

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- A program run before another: its result state, and whatever it returns, is where the other starts. -/
theorem seq (c : Dev nD) {α β : Type} {p : Prog (TpuEff nD τ sig (Elt F) Λ₀ .tc) α} {k : α → Prog (TpuEff nD τ sig (Elt F) Λ₀ .tc) β}
    {P : sProp (MT nD τ sig Unit (Elt F) ℕ UU ℕ)} {R : α → sProp (MT nD τ sig Unit (Elt F) ℕ UU ℕ)}
    {Q : β → sProp (MT nD τ sig Unit (Elt F) ℕ UU ℕ)} (h : P ⊢ wpc c p R) :
    P ⊢ iprop((∀ a, R a -∗ wpc c (k a) Q) -∗ wpc c (p >>= k) Q) := by
  rw [show wpc c (p >>= k) Q = wpc c p (fun a => wpc c (k a) Q) from wp_bind ..]
  iintro H Hk
  iapply wp_wand_r
  isplitl [H]
  · iapply h $$ H
  · iexact Hk

/-- A device asking for its number gets its number. -/
theorem wpc_deviceId (c : Dev nD) {α : Type} {k : Dev nD → Prog (TpuEff nD τ sig (Elt F) Λ₀ .tc) α} {Q : α → sProp (MT nD τ sig Unit (Elt F) ℕ UU ℕ)} :
    wpc c (.op .deviceId k) Q = wpc c (k c) Q := wp_deviceId ..

section Whole
variable (c : Dev nD) {cs : CoreSpace} {s : Shape} {e : EltTy} {mm : Memref sig .tc cs s e}
  {off : Fin s.rank → ℕ} {inb : ∀ a, off a + s.size a ≤ s.size a} {α : Type} {Q : α → sProp (MT nD τ sig Unit (Elt F) ℕ UU ℕ)}

/-- A load through the whole rectangle of an owned memref reads its contents. -/
theorem load_all {hl : mm.view.LoadsAt (Rect.unit off s.size inb).toLoadRect} {q : PosShare TreeShare} {X : s.Idx → Elt F e}
    {k : ((Rect.unit off s.size inb).shape.Idx → Elt F e) → Prog (TpuEff nD τ sig (Elt F) Λ₀ .tc) α} :
    own c mm q X ⊢ iprop((own c mm q X -∗ wpc c (k X) Q) -∗ wpc c (.op (.load mm (Rect.unit off s.size inb).toLoadRect hl) k) Q) := by
  unfold own owns
  iintro ⟨%f, %hf, H⟩ Hk
  iapply (wp_load_rect 𝒱₀ (c : Thread nD τ) none Set.univ (m := mm) (r := Rect.unit off s.size inb) (View.set_slice_subset _ _)) $$ H
  iintro H
  rw [show (mm.access (Rect.unit off s.size inb)).read (Elt F) f = X from
    funext fun z => (congrArg (mm.view.read (Elt F) f) (Rect.emb_unit_full inb z)).trans (congrFun hf z)]
  iapply Hk
  iexists f; isplitr; · (ipureintro; exact hf)
  iexact H

/-- A load through the whole rectangle of a memref whose contents nobody needs reads something. -/
theorem load_any {hl : mm.view.LoadsAt (Rect.unit off s.size inb).toLoadRect}
    {k : ((Rect.unit off s.size inb).shape.Idx → Elt F e) → Prog (TpuEff nD τ sig (Elt F) Λ₀ .tc) α} :
    free c mm ⊢ iprop((∀ v, free c mm -∗ wpc c (k v) Q) -∗ wpc c (.op (.load mm (Rect.unit off s.size inb).toLoadRect hl) k) Q) := by
  iintro H Hk
  ihave H := (own_of_free c mm) $$ H
  icases H with ⟨%X, H⟩
  iapply (load_all c) $$ H
  iintro H
  iapply Hk
  iapply (free_of_own c mm X) $$ H

/-- A store through the whole rectangle of a free memref leaves it owned at the stored vector. -/
theorem store_all {w : (Rect.unit off s.size inb).shape.Idx → Elt F e} {hx : (mm.access (Rect.unit off s.size inb)).Stores Finset.univ} {hm}
    {k : PUnit → Prog (TpuEff nD τ sig (Elt F) Λ₀ .tc) α} :
    free c mm
      ⊢ iprop((own c mm fullShare w -∗ wpc c (k ⟨⟩) Q) -∗ wpc c (.op (.store mm (Rect.unit off s.size inb) w Finset.univ hx hm) k) Q) := by
  unfold free own owns
  iintro ⟨%f, H⟩ Hk
  iapply (wp_store 𝒱₀ (c : Thread nD τ) none Set.univ (m := mm) (r := Rect.unit off s.size inb) (Mk := Finset.univ) (S := mm.view.set)
    (View.set_slice_subset _ _)) $$ H
  iintro H
  iapply Hk
  iexists ((mm.access (Rect.unit off s.size inb)).write (Elt F) f w Finset.univ)
  isplitr
  · ipureintro
    exact funext fun z => (congrArg (mm.view.read (Elt F) _) (Rect.emb_unit_full inb z)).symm.trans (congrFun (View.read_write_univ (Val := Elt F) (v := mm.access (Rect.unit off s.size inb)) f w) z)
  iexact H

end Whole

/-- The one element of a scalar memref, read. -/
theorem smem_all (c : Dev nD) {s : Shape} {e : EltTy} {mm : Memref sig .tc .smem s e} {off : Fin s.rank → ℕ} {inb : ∀ a, off a + s.size a ≤ s.size a}
    {α : Type} {Q : α → sProp (MT nD τ sig Unit (Elt F) ℕ UU ℕ)} {h : (mm.access (Rect.unit off s.size inb)).Loads}
    {x : (Rect.unit off s.size inb).shape.Idx} {k : Elt F e → Prog (TpuEff nD τ sig (Elt F) Λ₀ .tc) α} {q : PosShare TreeShare} {X : s.Idx → Elt F e} :
    own c mm q X ⊢ iprop((own c mm q X -∗ wpc c (k (X x)) Q) -∗ wpc c (smemLoadElt mm (Rect.unit off s.size inb) h x k) Q) :=
  load_all c (k := fun f => k (f x))

/-! ## Staging the weights -/

/-- the scalar memory holding the two scales; -/
abbrev sxM : Memref sig .tc .smem S1 .f32 := Memref.whole cc0_stg1_0
abbrev swM : Memref sig .tc .smem S1 .f32 := Memref.whole cc0_stg2_0
/-- row block `n` of the cast weights; -/
abbrev w8r : Fin 8 → Memref sig .tc .vmem S512x2048 .fp8e5m2
  | 0 => w8M.slice (rW 0) (fun _ => rfl) | 1 => w8M.slice (rW 1) (fun _ => rfl) | 2 => w8M.slice (rW 2) (fun _ => rfl)
  | 3 => w8M.slice (rW 3) (fun _ => rfl) | 4 => w8M.slice (rW 4) (fun _ => rfl) | 5 => w8M.slice (rW 5) (fun _ => rfl)
  | 6 => w8M.slice (rW 6) (fun _ => rfl) | 7 => w8M.slice (rW 7) (fun _ => rfl)
/-- tile `n` of the result, in the order device `c` writes them. -/
abbrev oTile (c : Dev nD) : Fin 8 → Memref sig .tc .hbm S512x2048 .f32
  | 0 => oM.slice (rO c 0) (fun _ => rfl) | 1 => oM.slice (rO c 1) (fun _ => rfl) | 2 => oM.slice (rO c 2) (fun _ => rfl)
  | 3 => oM.slice (rO c 3) (fun _ => rfl) | 4 => oM.slice (rO c 4) (fun _ => rfl) | 5 => oM.slice (rO c 5) (fun _ => rfl)
  | 6 => oM.slice (rO c 6) (fun _ => rfl) | 7 => oM.slice (rO c 7) (fun _ => rfl)

section Stage
variable (m : (ℓ : Loc nD τ sig) → Buf (Elt F) ℓ) (K : Dev nD × Fin 13 → ℕ) (c : Dev nD)
  {α : Type} {Q : α → sProp (MT nD τ sig Unit (Elt F) ℕ UU ℕ)}

/-- The weights of device `c`'s copy, whole, at a share. -/
abbrev wAt (q : PosShare TreeShare) : sProp 𝕄 := (wM.view.loc (c : Thread nD τ)) ↦{q} (warr m c)

/-- A chunk of weights in flight to a staging slot, the weights riding along. -/
abbrev wFlight (sm : DmaSem sig) (slot : Memref sig .tc .vmem S512x2048 .f32) (q : PosShare TreeShare) (n : Fin 8) : sProp 𝕄 :=
  flight c sm slot.view.dmaCredit iprop(own c slot fullShare (wChunk m c n) ∗ wAt m c q)

/-- Wait for a staged chunk and load it. -/
theorem fetch {rD : Rect S2x512x2048} {hrD : ∀ a, rD.stride a = 1} {hq : rD.shape.Squeezes S512x2048} {hc : rD.shape.ShapeCasts S512x2048}
    {sp' : Space} {s' : Shape} {e' : EltTy} {srcw : Memref sig .tc sp' s' e'} {sm : DmaSem sig} {hsrc : srcw.view.WordExact}
    {hdst : ((wsM.slice rD hrD).squeeze S512x2048 hq).view.WordExact} {hl : wsM.view.LoadsAt rD.toLoadRect}
    {k : (rD.shape.Idx → Elt F .f32) → Prog (TpuEff nD τ sig (Elt F) Λ₀ .tc) α} {X : S512x2048.Idx → Elt F .f32} {R : sProp 𝕄} (j : ℕ)
    (hlv : ((owedL c).drop j).all (fun p => decide (lv (dC c sm) () < lv p.1 ())) = true) :
    iprop(env m K ∗ ow c j ∗ flight c sm ((wsM.slice rD hrD).squeeze S512x2048 hq).view.dmaCredit
        iprop(own c ((wsM.slice rD hrD).squeeze S512x2048 hq) fullShare X ∗ R))
      ⊢ iprop((∀ v, ⌜shapeCast S512x2048 v hc = X⌝ -∗ (ow c j ∗ free c ((wsM.slice rD hrD).squeeze S512x2048 hq) ∗ R ∗ semVal (dC c sm) 0)
            -∗ wpc c (k v) Q)
          -∗ wpc c (.op (.waitDma2 sm srcw ((wsM.slice rD hrD).squeeze S512x2048 hq) hsrc hdst) fun _ => .op (.load wsM rD.toLoadRect hl) k) Q) := by
  iintro ⟨#He, HO, Hf⟩ Hk
  iapply (wait_local m K c j rfl hlv) $$ [HO Hf]
  · isplitr; · iexact He
    isplitl [HO] <;> iassumption
  iintro ⟨HO, ⟨Hs, HR⟩, Hv⟩
  iapply (load_slot c (hc := hc)) $$ Hs
  iintro %v %hv Hs
  iapply Hk $$ %v %hv
  isplitl [HO]; · iexact HO
  isplitl [Hs]; · iapply (free_of_own c _ X) $$ Hs
  isplitl [HR] <;> iassumption

/-- Cast a loaded chunk and store it into its rows (reading the rows first to no purpose). -/
theorem cast {off : Fin 2 → ℕ} {inb : ∀ a, off a + S512x2048.size a ≤ S4096x2048.size a}
    {hl : w8M.view.LoadsAt (Rect.unit (s := S4096x2048) off S512x2048.size inb).toLoadRect}
    {hx : (w8M.access (Rect.unit (s := S4096x2048) off S512x2048.size inb)).Stores Finset.univ} {hm}
    {k : PUnit → Prog (TpuEff nD τ sig (Elt F) Λ₀ .tc) α} {w X : S512x2048.Idx → Elt F .fp8e5m2} (hw : w = X) :
    free c (w8M.slice (Rect.unit (s := S4096x2048) off S512x2048.size inb) (fun _ => rfl))
      ⊢ iprop((own c (w8M.slice (Rect.unit (s := S4096x2048) off S512x2048.size inb) (fun _ => rfl)) fullShare X -∗ wpc c (k ⟨⟩) Q)
          -∗ wpc c (.op (.load w8M (Rect.unit (s := S4096x2048) off S512x2048.size inb).toLoadRect hl) fun _ =>
              .op (.store w8M (Rect.unit (s := S4096x2048) off S512x2048.size inb) w Finset.univ hx hm) k) Q) := by
  subst hw
  iintro H Hk
  iapply (load_free c) $$ H
  iintro %v H
  iapply (store_slice c) $$ H
  iexact Hk

/-- A tile in flight out of an output slot, the slot riding along. -/
abbrev oFlight (sm : DmaSem sig) (slot : Memref sig .tc .vmem S512x2048 .f32) (n : Fin 8) : sProp 𝕄 :=
  flight c sm (oTile c n).view.dmaCredit iprop(own c (oTile c n) fullShare (outT m c n) ∗ own c slot fullShare (outT m c n))

/-- The wait on one of the twelve copies' cells, its payload spelt out. -/
theorem wait_pay {sp sp' : Space} {s s' : Shape} {e e' : EltTy} {srcw : Memref sig .tc sp' s' e'} {dstw : Memref sig .tc sp s e}
    (i : Fin 12) {hsrc : srcw.view.WordExact} {hdst : dstw.view.WordExact}
    {k : PUnit → Prog (TpuEff nD τ sig (Elt F) Λ₀ .tc) α} (j : ℕ) {D : sProp 𝕄} (hD : dmaPay m c (7 + i.val) = D) (hn : dstw.view.dmaCredit = N)
    (hl : ((owedL c).drop j).all (fun p => decide (lv (dC c ⟨7 + i.val, show 7 + i.val < 19 by omega⟩) () < lv p.1 ())) = true) :
    iprop(env m K ∗ ow c j ∗ cred (tallyAt (dC c ⟨7 + i.val, show 7 + i.val < 19 by omega⟩) () N)
        ∗ atPos ER (dC c ⟨7 + i.val, show 7 + i.val < 19 by omega⟩) 0 ∅ 0)
      ⊢ iprop(((ow c j ∗ D ∗ semVal (dC c ⟨7 + i.val, show 7 + i.val < 19 by omega⟩) 0) -∗ wpc c (k ⟨⟩) Q)
          -∗ wpc c (.op (.waitDma2 (⟨7 + i.val, show 7 + i.val < 19 by omega⟩ : DmaSem sig) srcw dstw hsrc hdst) k) Q) := by
  subst hD; exact wait_cell m K c i j hn hl

/-- Store a tile into an output slot (reading the slot first to no purpose). -/
theorem put {rD : Rect S2x512x2048} {hrD : ∀ a, rD.stride a = 1} {hq : rD.shape.Squeezes S512x2048} {hc : rD.shape.ShapeCasts S512x2048}
    {hl : osM.view.LoadsAt rD.toLoadRect} {hx : (osM.access rD).Stores Finset.univ} {hm}
    {k : PUnit → Prog (TpuEff nD τ sig (Elt F) Λ₀ .tc) α} {w : rD.shape.Idx → Elt F .f32} {X : S512x2048.Idx → Elt F .f32}
    (hw : shapeCast S512x2048 w hc = X) :
    free c ((osM.slice rD hrD).squeeze S512x2048 hq)
      ⊢ iprop((own c ((osM.slice rD hrD).squeeze S512x2048 hq) fullShare X -∗ wpc c (k ⟨⟩) Q)
          -∗ wpc c (.op (.load osM rD.toLoadRect hl) fun _ => .op (.store osM rD w Finset.univ hx hm) k) Q) := by
  iintro H Hk
  iapply (load_free_slot c) $$ H
  iintro %v H
  iapply (store_slot c hw) $$ H
  iexact Hk

end Stage

/-! ## The semaphores the kernel names, by number -/

theorem ws0_eq : ((cc0_scratch6.slice (Rect.unit (s := S2) ![0] ![1] inb_S2_S1_0)).squeeze S_ squeezes_S1_S_).sem = q 3 := by decide
theorem ws1_eq : ((cc0_scratch6.slice (Rect.unit (s := S2) ![1] ![1] inb_S2_S1_1)).squeeze S_ squeezes_S1_S_).sem = q 4 := by decide
theorem os0_eq : ((cc0_scratch7.slice (Rect.unit (s := S2) ![0] ![1] inb_S2_S1_0)).squeeze S_ squeezes_S1_S_).sem = q 5 := by decide
theorem os1_eq : ((cc0_scratch7.slice (Rect.unit (s := S2) ![1] ![1] inb_S2_S1_1)).squeeze S_ squeezes_S1_S_).sem = q 6 := by decide
theorem cs0_eq : ((cc0_scratch8.slice (Rect.unit (s := S3) ![0] ![1] inb_S3_S1_0)).squeeze S_ squeezes_S1_S_).sem = q 7 := by decide
theorem cs1_eq : ((cc0_scratch8.slice (Rect.unit (s := S3) ![1] ![1] inb_S3_S1_1)).squeeze S_ squeezes_S1_S_).sem = q 8 := by decide
theorem cs2_eq : ((cc0_scratch8.slice (Rect.unit (s := S3) ![2] ![1] inb_S3_S1_2)).squeeze S_ squeezes_S1_S_).sem = q 9 := by decide
theorem cr0_eq : ((cc0_scratch9.slice (Rect.unit (s := S3) ![0] ![1] inb_S3_S1_0)).squeeze S_ squeezes_S1_S_).sem = q 10 := by decide
theorem cr1_eq : ((cc0_scratch9.slice (Rect.unit (s := S3) ![1] ![1] inb_S3_S1_1)).squeeze S_ squeezes_S1_S_).sem = q 11 := by decide
theorem cr2_eq : ((cc0_scratch9.slice (Rect.unit (s := S3) ![2] ![1] inb_S3_S1_2)).squeeze S_ squeezes_S1_S_).sem = q 12 := by decide
theorem ds0_eq : ((cc0_scratch10.slice (Rect.unit (s := S3) ![0] ![1] inb_S3_S1_0)).squeeze S_ squeezes_S1_S_).sem = q 13 := by decide
theorem ds1_eq : ((cc0_scratch10.slice (Rect.unit (s := S3) ![1] ![1] inb_S3_S1_1)).squeeze S_ squeezes_S1_S_).sem = q 14 := by decide
theorem ds2_eq : ((cc0_scratch10.slice (Rect.unit (s := S3) ![2] ![1] inb_S3_S1_2)).squeeze S_ squeezes_S1_S_).sem = q 15 := by decide
theorem dr0_eq : ((cc0_scratch11.slice (Rect.unit (s := S3) ![0] ![1] inb_S3_S1_0)).squeeze S_ squeezes_S1_S_).sem = q 16 := by decide
theorem dr1_eq : ((cc0_scratch11.slice (Rect.unit (s := S3) ![1] ![1] inb_S3_S1_1)).squeeze S_ squeezes_S1_S_).sem = q 17 := by decide
theorem dr2_eq : ((cc0_scratch11.slice (Rect.unit (s := S3) ![2] ![1] inb_S3_S1_2)).squeeze S_ squeezes_S1_S_).sem = q 18 := by decide

end Cert.RingProof

end
-- ==== Proof.Parts1.lean ====
/-
# Parts1: the first part of the kernel's body
-/
module

public import proofs.«01_k».proof.Proof.Moves

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The first chunk of weights starts, the neighbours meet at the barrier, and the block of `x` is cast. -/
theorem part1 :
    iprop(env m K ∗ ow c 0 ∗ wAt m c fullShare.left ∗ free c wS0 ∗ semVal (dC c (q 3)) 0
        ∗ (dutyTok ER (bC (prv c)) 0 false ∗ free c cw0 ∗ free c cw1 ∗ free c cw2)
        ∗ (dutyTok ER (bC (nxt c)) 0 true ∗ free c ccw0 ∗ free c ccw1 ∗ free c ccw2)
        ∗ (cred (tallyAt (bC c) () 2) ∗ atPos ER (bC c) 0 ∅ 0)
        ∗ own c xM fullShare (xstg m c) ∗ free c x8M)
      ⊢ wpc c (k0_part1_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11)
          (fun r => iprop(⌜r.1 = c⌝ ∗ ow c 2 ∗ wFlight m c (q 3) wS0 fullShare.left 0 ∗ barPay c false ∗ barPay c true ∗ semVal (bC c) 0
            ∗ own c xM fullShare (xstg m c) ∗ own c x8M fullShare (X8 m c))) := by
  unfold k0_part1_skel
  simp only [semSignalWord, semWaitWord, Prog.lift, Prog.bind_op, Prog.bind_ret, Prog.pure_eq_ret, ws0_eq, wpc_deviceId]
  iintro ⟨#He, HO, Hw, Hs, Hv, HL, HR, ⟨Hbc, Hba⟩, Hx, H8⟩
  iapply (copy_part c (X := wChunk m c 0) rfl (by decide)) $$ [Hw Hs Hv]
  · isplitl [Hw]; · iexact Hw
    isplitl [Hs]; · iexact Hs
    iexact Hv
  iintro Hf
  iapply (signal_left m K c (dev1_eq c) rfl) $$ [HO HL]
  · isplitr; · iexact He
    isplitl [HO] <;> iassumption
  iintro HO
  iapply (signal_right m K c (dev2_eq c) rfl) $$ [HO HR]
  · isplitr; · iexact He
    isplitl [HO] <;> iassumption
  iintro HO
  iapply (wait_bar m K c rfl) $$ [HO Hbc Hba]
  · isplitr; · iexact He
    isplitl [HO]; · iexact HO
    isplitl [Hbc] <;> iassumption
  iintro ⟨HO, Hp0, Hp1, Hbv⟩
  iapply (load_all c) $$ Hx
  iintro Hx
  iapply (load_any c) $$ H8
  iintro %v H8
  iapply (store_all c) $$ H8
  iintro H8
  simp only [wp_ret]
  imodintro
  isplitr; · (ipureintro; trivial)
  isplitl [HO]; · iexact HO
  isplitl [Hf]; · iexact Hf
  isplitl [Hp0]; · iexact Hp0
  isplitl [Hp1]; · iexact Hp1
  isplitl [Hbv]; · iexact Hbv
  isplitl [Hx]; · iexact Hx
  iexact H8

end Cert.RingProof

end
-- ==== Proof.Parts2.lean ====
/-
# Parts2: the kernel's body from the first copies to the neighbours to the last of the weights

Parts 2 to 6 of the printed body: the first copy in each direction, and the staging and casting of the eight chunks of weights.
-/
module

public import proofs.«01_k».proof.Proof.Parts1

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The first copies start, the second chunk of weights starts, the first has landed. -/
theorem part2 (v5 v7 w : BitVec 32) :
    iprop(env m K ∗ ow c 2 ∗ (own c x8T fullShare.left (xT m c) ∗ free (nxt c) cw0 ∗ dutyTok ER (dC c (q 7)) 0 false ∗ dutyTok ER (dC (nxt c) (q 10)) 0 false) ∗ (own c x8B fullShare.left (xB m c) ∗ free (prv c) ccw0 ∗ dutyTok ER (dC c (q 13)) 0 false ∗ dutyTok ER (dC (prv c) (q 16)) 0 false) ∗ wAt m c fullShare.right ∗ free c wS1 ∗ semVal (dC c (q 4)) 0 ∗ wFlight m c (q 3) wS0 fullShare.left 0)
      ⊢ wpc c (k0_part2_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v5 v7 w)
          (fun v => iprop(⌜shapeCast S512x2048 v shapeCasts_S1x512x2048_S512x2048 = wChunk m c 0⌝ ∗ ow c 4 ∗ cred (tallyAt (dC c (q 7)) () N) ∗ cred (tallyAt (dC c (q 13)) () N) ∗ wFlight m c (q 4) wS1 fullShare.right 1 ∗ free c wS0 ∗ wAt m c fullShare.left ∗ semVal (dC c (q 3)) 0)) := by
  unfold k0_part2_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, ⟨HxT, Hcw, Ht, Ht'⟩, ⟨HxB, Hcc, Hu, Hu'⟩, Hw, Hs1, Hv4, Hf⟩
  iapply (send m K c (src := x8T) (dst := cw0) (nxt c) (dev3_eq c) 0 3 2 rfl rfl .rfl (by rw [show dmaPay m (nxt c) (7 + (3 : Fin 12).val) = own (nxt c) cw0 fullShare (xT m (prv (nxt c))) from rfl, prv_nxt])) $$ [HO HxT Hcw Ht Ht']
  · isplitr; · iexact He
    isplitl [HO]; · iexact HO
    isplitl [HxT]; · iexact HxT
    isplitl [Hcw]; · iexact Hcw
    isplitl [Ht]; · iexact Ht
    iexact Ht'
  iintro ⟨HO, Hc7⟩
  iapply (send m K c (src := x8B) (dst := ccw0) (prv c) (dev4_eq c) 6 9 3 rfl rfl .rfl (by rw [show dmaPay m (prv c) (7 + (9 : Fin 12).val) = own (prv c) ccw0 fullShare (xB m (nxt (prv c))) from rfl, nxt_prv])) $$ [HO HxB Hcc Hu Hu']
  · isplitr; · iexact He
    isplitl [HO]; · iexact HO
    isplitl [HxB]; · iexact HxB
    isplitl [Hcc]; · iexact Hcc
    isplitl [Hu]; · iexact Hu
    iexact Hu'
  iintro ⟨HO, Hc13⟩
  iapply (copy_part c (X := wChunk m c 1) rfl (by decide)) $$ [Hw Hs1 Hv4]
  · isplitl [Hw]; · iexact Hw
    isplitl [Hs1]; · iexact Hs1
    iexact Hv4
  iintro Hg
  iapply (fetch m K c (rD := rD0) (hc := shapeCasts_S1x512x2048_S512x2048) 4 rfl) $$ [HO Hf]
  · isplitr; · iexact He
    isplitl [HO]; · iexact HO
    iexact Hf
  iintro %v %hv ⟨HO, Hs0, Hw, Hv3⟩
  simp only [wp_ret]
  imodintro
  isplitr; · (ipureintro; exact hv)
  isplitl [HO]; · iexact HO
  isplitl [Hc7]; · iexact Hc7
  isplitl [Hc13]; · iexact Hc13
  isplitl [Hg]; · iexact Hg
  isplitl [Hs0]; · iexact Hs0
  isplitl [Hw]; · iexact Hw
  iexact Hv3

/-- The first two chunks of weights are cast, the third and fourth start. -/
theorem part3 (v : Vec F S1x512x2048 .f32) (hv : shapeCast S512x2048 v shapeCasts_S1x512x2048_S512x2048 = wChunk m c 0) :
    iprop(env m K ∗ ow c 4 ∗ free c (w8r 0) ∗ free c (w8r 1) ∗ free c wS0 ∗ wAt m c fullShare.left ∗ semVal (dC c (q 3)) 0 ∗ wFlight m c (q 4) wS1 fullShare.right 1)
      ⊢ wpc c (k0_part3_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v)
          (fun _ => iprop(ow c 4 ∗ own c (w8r 0) fullShare (wRow m c 0) ∗ own c (w8r 1) fullShare (wRow m c 1) ∗ wFlight m c (q 3) wS0 fullShare.left 2 ∗ wFlight m c (q 4) wS1 fullShare.right 3)) := by
  unfold k0_part3_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, H0, H1, Hs0, Hw, Hv3, Hg⟩
  iapply (cast c (X := wRow m c 0) (castW_eq m c 0 _ hv)) $$ H0
  iintro H0
  iapply (copy_part c (X := wChunk m c 2) rfl (by decide)) $$ [Hw Hs0 Hv3]
  · isplitl [Hw]; · iexact Hw
    isplitl [Hs0]; · iexact Hs0
    iexact Hv3
  iintro Hf
  iapply (fetch m K c (rD := rD1) (hc := shapeCasts_S1x512x2048_S512x2048) 4 rfl) $$ [HO Hg]
  · isplitr; · iexact He
    isplitl [HO]; · iexact HO
    iexact Hg
  iintro %v' %hv' ⟨HO, Hs1, Hw, Hv4⟩
  iapply (cast c (X := wRow m c 1) (castW_eq m c 1 _ hv')) $$ H1
  iintro H1
  iapply (copy_part c (X := wChunk m c 3) rfl (by decide)) $$ [Hw Hs1 Hv4]
  · isplitl [Hw]; · iexact Hw
    isplitl [Hs1]; · iexact Hs1
    iexact Hv4
  iintro Hg
  simp only [wp_ret]
  imodintro
  isplitl [HO]; · iexact HO
  isplitl [H0]; · iexact H0
  isplitl [H1]; · iexact H1
  isplitl [Hf]; · iexact Hf
  iexact Hg

/-- The third and fourth chunks are cast, the fifth starts. -/
theorem part4 :
    iprop(env m K ∗ ow c 4 ∗ free c (w8r 2) ∗ free c (w8r 3) ∗ wFlight m c (q 3) wS0 fullShare.left 2 ∗ wFlight m c (q 4) wS1 fullShare.right 3)
      ⊢ wpc c (k0_part4_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c)
          (fun _ => iprop(ow c 4 ∗ own c (w8r 2) fullShare (wRow m c 2) ∗ own c (w8r 3) fullShare (wRow m c 3) ∗ wFlight m c (q 3) wS0 fullShare.left 4 ∗ free c wS1 ∗ wAt m c fullShare.right ∗ semVal (dC c (q 4)) 0)) := by
  unfold k0_part4_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, H0, H1, Hf, Hg⟩
  iapply (fetch m K c (rD := rD0) (hc := shapeCasts_S1x512x2048_S512x2048) 4 rfl) $$ [HO Hf]
  · isplitr; · iexact He
    isplitl [HO]; · iexact HO
    iexact Hf
  iintro %v %hv ⟨HO, Hs0, Hw, Hv3⟩
  iapply (cast c (X := wRow m c 2) (castW_eq m c 2 _ hv)) $$ H0
  iintro H0
  iapply (copy_part c (X := wChunk m c 4) rfl (by decide)) $$ [Hw Hs0 Hv3]
  · isplitl [Hw]; · iexact Hw
    isplitl [Hs0]; · iexact Hs0
    iexact Hv3
  iintro Hf
  iapply (fetch m K c (rD := rD1) (hc := shapeCasts_S1x512x2048_S512x2048) 4 rfl) $$ [HO Hg]
  · isplitr; · iexact He
    isplitl [HO]; · iexact HO
    iexact Hg
  iintro %v' %hv' ⟨HO, Hs1, Hw, Hv4⟩
  iapply (cast c (X := wRow m c 3) (castW_eq m c 3 _ hv')) $$ H1
  iintro H1
  simp only [wp_ret]
  imodintro
  isplitl [HO]; · iexact HO
  isplitl [H0]; · iexact H0
  isplitl [H1]; · iexact H1
  isplitl [Hf]; · iexact Hf
  isplitl [Hs1]; · iexact Hs1
  isplitl [Hw]; · iexact Hw
  iexact Hv4

/-- The fifth and sixth chunks are cast, the seventh starts. -/
theorem part5 :
    iprop(env m K ∗ ow c 4 ∗ free c (w8r 4) ∗ free c (w8r 5) ∗ wFlight m c (q 3) wS0 fullShare.left 4 ∗ free c wS1 ∗ wAt m c fullShare.right ∗ semVal (dC c (q 4)) 0)
      ⊢ wpc c (k0_part5_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c)
          (fun _ => iprop(ow c 4 ∗ own c (w8r 4) fullShare (wRow m c 4) ∗ own c (w8r 5) fullShare (wRow m c 5) ∗ wFlight m c (q 3) wS0 fullShare.left 6 ∗ free c wS1 ∗ wAt m c fullShare.right ∗ semVal (dC c (q 4)) 0)) := by
  unfold k0_part5_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, H0, H1, Hf, Hs1, Hw, Hv4⟩
  iapply (copy_part c (X := wChunk m c 5) rfl (by decide)) $$ [Hw Hs1 Hv4]
  · isplitl [Hw]; · iexact Hw
    isplitl [Hs1]; · iexact Hs1
    iexact Hv4
  iintro Hg
  iapply (fetch m K c (rD := rD0) (hc := shapeCasts_S1x512x2048_S512x2048) 4 rfl) $$ [HO Hf]
  · isplitr; · iexact He
    isplitl [HO]; · iexact HO
    iexact Hf
  iintro %v %hv ⟨HO, Hs0, Hw, Hv3⟩
  iapply (cast c (X := wRow m c 4) (castW_eq m c 4 _ hv)) $$ H0
  iintro H0
  iapply (copy_part c (X := wChunk m c 6) rfl (by decide)) $$ [Hw Hs0 Hv3]
  · isplitl [Hw]; · iexact Hw
    isplitl [Hs0]; · iexact Hs0
    iexact Hv3
  iintro Hf
  iapply (fetch m K c (rD := rD1) (hc := shapeCasts_S1x512x2048_S512x2048) 4 rfl) $$ [HO Hg]
  · isplitr; · iexact He
    isplitl [HO]; · iexact HO
    iexact Hg
  iintro %v' %hv' ⟨HO, Hs1, Hw, Hv4⟩
  iapply (cast c (X := wRow m c 5) (castW_eq m c 5 _ hv')) $$ H1
  iintro H1
  simp only [wp_ret]
  imodintro
  isplitl [HO]; · iexact HO
  isplitl [H0]; · iexact H0
  isplitl [H1]; · iexact H1
  isplitl [Hf]; · iexact Hf
  isplitl [Hs1]; · iexact Hs1
  isplitl [Hw]; · iexact Hw
  iexact Hv4

/-- The last two chunks are cast, and the scales are read. -/
theorem part6 :
    iprop(env m K ∗ ow c 4 ∗ free c (w8r 6) ∗ free c (w8r 7) ∗ wFlight m c (q 3) wS0 fullShare.left 6 ∗ free c wS1 ∗ wAt m c fullShare.right ∗ semVal (dC c (q 4)) 0 ∗ own c sxM fullShare (sxstg m c) ∗ own c swM fullShare (swstg m c))
      ⊢ wpc c (k0_part6_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c)
          (fun r => iprop(⌜r = sc m c⌝ ∗ ow c 4 ∗ own c (w8r 6) fullShare (wRow m c 6) ∗ own c (w8r 7) fullShare (wRow m c 7) ∗ free c wS0 ∗ wAt m c fullShare.left ∗ semVal (dC c (q 3)) 0 ∗ free c wS1 ∗ wAt m c fullShare.right ∗ semVal (dC c (q 4)) 0 ∗ own c sxM fullShare (sxstg m c) ∗ own c swM fullShare (swstg m c))) := by
  unfold k0_part6_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, H0, H1, Hf, Hs1, Hw, Hv4, Hx, Hy⟩
  iapply (copy_part c (X := wChunk m c 7) rfl (by decide)) $$ [Hw Hs1 Hv4]
  · isplitl [Hw]; · iexact Hw
    isplitl [Hs1]; · iexact Hs1
    iexact Hv4
  iintro Hg
  iapply (fetch m K c (rD := rD0) (hc := shapeCasts_S1x512x2048_S512x2048) 4 rfl) $$ [HO Hf]
  · isplitr; · iexact He
    isplitl [HO]; · iexact HO
    iexact Hf
  iintro %v %hv ⟨HO, Hs0, HwL, Hv3⟩
  iapply (cast c (X := wRow m c 6) (castW_eq m c 6 _ hv)) $$ H0
  iintro H0
  iapply (fetch m K c (rD := rD1) (hc := shapeCasts_S1x512x2048_S512x2048) 4 rfl) $$ [HO Hg]
  · isplitr; · iexact He
    isplitl [HO]; · iexact HO
    iexact Hg
  iintro %v' %hv' ⟨HO, Hs1, Hw, Hv4⟩
  iapply (cast c (X := wRow m c 7) (castW_eq m c 7 _ hv')) $$ H1
  iintro H1
  simp only [smemLoadElt_bind, Prog.bind_ret]
  iapply (smem_all c) $$ Hx
  iintro Hx
  iapply (smem_all c) $$ Hy
  iintro Hy
  simp only [wp_ret]
  imodintro
  isplitr; · (ipureintro; exact rfl)
  isplitl [HO]; · iexact HO
  isplitl [H0]; · iexact H0
  isplitl [H1]; · iexact H1
  isplitl [Hs0]; · iexact Hs0
  isplitl [HwL]; · iexact HwL
  isplitl [Hv3]; · iexact Hv3
  isplitl [Hs1]; · iexact Hs1
  isplitl [Hw]; · iexact Hw
  isplitl [Hv4]; · iexact Hv4
  isplitl [Hx]; · iexact Hx
  iexact Hy

end Cert.RingProof

end
-- ==== Proof.Parts3.lean ====
/-
# Parts3: the kernel’s body from the first tile to the landing of the second copies

Parts 7 to 12 of the printed body.
-/
module

public import proofs.«01_k».proof.Proof.Moves

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The two tiles of the device’s own rows are computed, the first starts. -/
theorem part7 (v2 : BitVec 32) :
    iprop(env m K ∗ own c x8T fullShare.right (xT m c) ∗ own c x8B fullShare.right (xB m c) ∗ own c w8M fullShare (W8 m c) ∗ free c oS0 ∗ free c oS1 ∗ free c (oTile c 0) ∗ semVal (dC c (q 5)) 0)
      ⊢ wpc c (k0_part7_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v2 (sc m c))
          (fun _ => iprop(own c x8T fullShare.right (xT m c) ∗ own c x8B fullShare.right (xB m c) ∗ own c w8M fullShare (W8 m c) ∗ oFlight m c (q 5) oS0 0 ∗ own c oS1 fullShare (outT m c 1))) := by
  unfold k0_part7_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HxT, HxB, H8, Hs0, Hs1, Ht, Hv⟩
  iapply (load_slice c) $$ HxT
  iintro HxT
  iapply (load_all c) $$ H8
  iintro H8
  iapply (put c (rD := rD0) (hc := shapeCasts_S1x512x2048_S512x2048) (X := outT m c 0) (pay11_eq _ _ _)) $$ Hs0
  iintro Hs0
  iapply (copy_own c (by decide)) $$ [Hs0 Ht Hv]
  · isplitl [Hs0]; · iexact Hs0
    isplitl [Ht]; · iexact Ht
    iexact Hv
  iintro Hf
  iapply (load_slice c) $$ HxB
  iintro HxB
  iapply (load_all c) $$ H8
  iintro H8
  iapply (put c (rD := rD1) (hc := shapeCasts_S1x512x2048_S512x2048) (X := outT m c 1) (pay12_eq _ _ _)) $$ Hs1
  iintro Hs1
  simp only [wp_ret]
  imodintro
  isplitl [HxT]; · iexact HxT
  isplitl [HxB]; · iexact HxB
  isplitl [H8]; · iexact H8
  isplitl [Hf]; · iexact Hf
  iexact Hs1

/-- The second tile starts; the first copy to the right has left and the one from the left has landed; the first copy to the left has left. -/
theorem part8 (v5 v7 : BitVec 32) :
    iprop(env m K ∗ ow c 4 ∗ own c oS1 fullShare (outT m c 1) ∗ free c (oTile c 1) ∗ semVal (dC c (q 6)) 0 ∗ (cred (tallyAt (dC c (q 7)) () N) ∗ atPos ER (dC c (q 7)) 0 ∅ 0) ∗ (cred (tallyAt (dC c (q 10)) () N) ∗ atPos ER (dC c (q 10)) 0 ∅ 0) ∗ (cred (tallyAt (dC c (q 13)) () N) ∗ atPos ER (dC c (q 13)) 0 ∅ 0))
      ⊢ wpc c (k0_part8_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v5 v7)
          (fun _ => iprop(ow c 4 ∗ oFlight m c (q 6) oS1 1 ∗ own c x8T fullShare.left (xT m c) ∗ semVal (dC c (q 7)) 0 ∗ own c cw0 fullShare (xT m (prv c)) ∗ semVal (dC c (q 10)) 0 ∗ own c x8B fullShare.left (xB m c) ∗ semVal (dC c (q 13)) 0)) := by
  unfold k0_part8_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, Hs1, Ht, Hv, ⟨Hc7, Ha7⟩, ⟨Hc10, Ha10⟩, ⟨Hc13, Ha13⟩⟩
  iapply (copy_own c (by decide)) $$ [Hs1 Ht Hv]
  · isplitl [Hs1]; · iexact Hs1
    isplitl [Ht]; · iexact Ht
    iexact Hv
  iintro Hf
  iapply (wait_pay m K c (dstw := x8T) (D := own c x8T fullShare.left (xT m c)) 0 4 rfl rfl rfl) $$ [HO Hc7 Ha7]
  · isplitr; · iexact He
    isplitl [HO]; · iexact HO
    isplitl [Hc7]; · iexact Hc7
    iexact Ha7
  iintro ⟨HO, Hp7, Hv7⟩
  iapply (wait_pay m K c (dstw := cw0) (D := own c cw0 fullShare (xT m (prv c))) 3 4 rfl rfl rfl) $$ [HO Hc10 Ha10]
  · isplitr; · iexact He
    isplitl [HO]; · iexact HO
    isplitl [Hc10]; · iexact Hc10
    iexact Ha10
  iintro ⟨HO, Hp10, Hv10⟩
  iapply (wait_pay m K c (dstw := x8B) (D := own c x8B fullShare.left (xB m c)) 6 4 rfl rfl rfl) $$ [HO Hc13 Ha13]
  · isplitr; · iexact He
    isplitl [HO]; · iexact HO
    isplitl [Hc13]; · iexact Hc13
    iexact Ha13
  iintro ⟨HO, Hp13, Hv13⟩
  simp only [wp_ret]
  imodintro
  isplitl [HO]; · iexact HO
  isplitl [Hf]; · iexact Hf
  isplitl [Hp7]; · iexact Hp7
  isplitl [Hv7]; · iexact Hv7
  isplitl [Hp10]; · iexact Hp10
  isplitl [Hv10]; · iexact Hv10
  isplitl [Hp13]; · iexact Hp13
  iexact Hv13

/-- The first copy from the right has landed; the second copies start, out of the slots just landed in. -/
theorem part9 (v2 v5 v7 : BitVec 32) :
    iprop(env m K ∗ ow c 4 ∗ (cred (tallyAt (dC c (q 16)) () N) ∗ atPos ER (dC c (q 16)) 0 ∅ 0) ∗ (own c cw0 fullShare (xT m (prv c)) ∗ free (nxt c) cw1 ∗ dutyTok ER (dC c (q 8)) 0 false ∗ dutyTok ER (dC (nxt c) (q 11)) 0 false) ∗ (free (prv c) ccw1 ∗ dutyTok ER (dC c (q 14)) 0 false ∗ dutyTok ER (dC (prv c) (q 17)) 0 false))
      ⊢ wpc c (k0_part9_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v2 v5 v7)
          (fun _ => iprop(ow c 6 ∗ semVal (dC c (q 16)) 0 ∗ own c cw0 fullShare.right (xT m (prv c)) ∗ own c ccw0 fullShare.right (xB m (nxt c)) ∗ cred (tallyAt (dC c (q 8)) () N) ∗ cred (tallyAt (dC c (q 14)) () N))) := by
  unfold k0_part9_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, ⟨Hc, Ha⟩, ⟨Hcw, Hd, Ht, Ht'⟩, ⟨Hd', Hu, Hu'⟩⟩
  iapply (wait_pay m K c (dstw := ccw0) (D := own c ccw0 fullShare (xB m (nxt c))) 9 4 rfl rfl rfl) $$ [HO Hc Ha]
  · isplitr; · iexact He
    isplitl [HO]; · iexact HO
    isplitl [Hc]; · iexact Hc
    iexact Ha
  iintro ⟨HO, Hp, Hv⟩
  ihave Hcw := (own_split c cw0 _) $$ Hcw
  icases Hcw with ⟨HcL, HcR⟩
  iapply (send m K c (src := cw0) (dst := cw1) (nxt c) (dev5_eq c) 1 4 4 rfl rfl .rfl (by rw [show dmaPay m (nxt c) (7 + (4 : Fin 12).val) = own (nxt c) cw1 fullShare (xT m (prv (prv (nxt c)))) from rfl, prv_nxt])) $$ [HO HcL Hd Ht Ht']
  · isplitr; · iexact He
    isplitl [HO]; · iexact HO
    isplitl [HcL]; · iexact HcL
    isplitl [Hd]; · iexact Hd
    isplitl [Ht]; · iexact Ht
    iexact Ht'
  iintro ⟨HO, Hc8⟩
  ihave Hcc := (own_split c ccw0 (xB m (nxt c))) $$ Hp
  icases Hcc with ⟨HdL, HdR⟩
  iapply (send m K c (src := ccw0) (dst := ccw1) (prv c) (dev6_eq c) 7 10 5 rfl rfl .rfl (by rw [show dmaPay m (prv c) (7 + (10 : Fin 12).val) = own (prv c) ccw1 fullShare (xB m (nxt (nxt (prv c)))) from rfl, nxt_prv])) $$ [HO HdL Hd' Hu Hu']
  · isplitr; · iexact He
    isplitl [HO]; · iexact HO
    isplitl [HdL]; · iexact HdL
    isplitl [Hd']; · iexact Hd'
    isplitl [Hu]; · iexact Hu
    iexact Hu'
  iintro ⟨HO, Hc14⟩
  simp only [wp_ret]
  imodintro
  isplitl [HO]; · iexact HO
  isplitl [Hv]; · iexact Hv
  isplitl [HcR]; · iexact HcR
  isplitl [HdR]; · iexact HdR
  isplitl [Hc8]; · iexact Hc8
  iexact Hc14

/-- The third tile, of the left neighbour’s rows, takes the first output slot. -/
theorem part10 (v248 v249 : BitVec 32) :
    iprop(env m K ∗ ow c 6 ∗ own c cw0 fullShare.right (xT m (prv c)) ∗ own c ccw0 fullShare.right (xB m (nxt c)) ∗ oFlight m c (q 5) oS0 0 ∗ own c w8M fullShare (W8 m c) ∗ free c (oTile c 2))
      ⊢ wpc c (k0_part10_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c (sc m c) v248 v249)
          (fun r => iprop(⌜r = tX m c 3⌝ ∗ ow c 6 ∗ own c cw0 fullShare.right (xT m (prv c)) ∗ own c ccw0 fullShare.right (xB m (nxt c)) ∗ own c (oTile c 0) fullShare (outT m c 0) ∗ own c w8M fullShare (W8 m c) ∗ oFlight m c (q 5) oS0 2)) := by
  unfold k0_part10_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, Hc, Hd, Hf, H8, Ht⟩
  iapply (load_slot c (r := rR0) (hc := shapeCasts_S1x512x4096_S512x4096)) $$ Hc
  iintro %v %hv Hc
  iapply (wait_local m K c 6 rfl rfl) $$ [HO Hf]
  · isplitr; · iexact He
    isplitl [HO]; · iexact HO
    iexact Hf
  iintro ⟨HO, ⟨Ht0, Hs⟩, Hv⟩
  ihave Hs := (free_of_own c _ (outT m c 0)) $$ Hs
  iapply (load_all c) $$ H8
  iintro H8
  iapply (put c (rD := rD0) (hc := shapeCasts_S1x512x2048_S512x2048) (X := outT m c 2) (pay13_eq _ _ _ _ hv)) $$ Hs
  iintro Hs
  iapply (copy_own c (by decide)) $$ [Hs Ht Hv]
  · isplitl [Hs]; · iexact Hs
    isplitl [Ht]; · iexact Ht
    iexact Hv
  iintro Hf
  iapply (load_slot c (r := rR0) (hc := shapeCasts_S1x512x4096_S512x4096)) $$ Hd
  iintro %v' %hv' Hd
  simp only [wp_ret]
  imodintro
  isplitr; · (ipureintro; exact hv')
  isplitl [HO]; · iexact HO
  isplitl [Hc]; · iexact Hc
  isplitl [Hd]; · iexact Hd
  isplitl [Ht0]; · iexact Ht0
  isplitl [H8]; · iexact H8
  iexact Hf

/-- The fourth tile, of the right neighbour’s rows, takes the second output slot; the second copy to the right has left. -/
theorem part11 (v7 : BitVec 32) (v274 : FVec F S512x4096 .fp8e5m2) (hv : v274 = tX m c 3) :
    iprop(env m K ∗ ow c 6 ∗ oFlight m c (q 6) oS1 1 ∗ own c w8M fullShare (W8 m c) ∗ free c (oTile c 3) ∗ (cred (tallyAt (dC c (q 8)) () N) ∗ atPos ER (dC c (q 8)) 0 ∅ 0))
      ⊢ wpc c (k0_part11_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v7 (sc m c) v274)
          (fun _ => iprop(ow c 6 ∗ own c (oTile c 1) fullShare (outT m c 1) ∗ own c w8M fullShare (W8 m c) ∗ oFlight m c (q 6) oS1 3 ∗ own c cw0 fullShare.left (xT m (prv c)) ∗ semVal (dC c (q 8)) 0)) := by
  unfold k0_part11_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  subst hv
  iintro ⟨#He, HO, Hf, H8, Ht, ⟨Hc, Ha⟩⟩
  iapply (wait_local m K c 6 rfl rfl) $$ [HO Hf]
  · isplitr; · iexact He
    isplitl [HO]; · iexact HO
    iexact Hf
  iintro ⟨HO, ⟨Ht1, Hs⟩, Hv⟩
  ihave Hs := (free_of_own c _ (outT m c 1)) $$ Hs
  iapply (load_all c) $$ H8
  iintro H8
  iapply (put c (rD := rD1) (hc := shapeCasts_S1x512x2048_S512x2048) (X := outT m c 3) (pay15_eq _ _ _)) $$ Hs
  iintro Hs
  iapply (copy_own c (by decide)) $$ [Hs Ht Hv]
  · isplitl [Hs]; · iexact Hs
    isplitl [Ht]; · iexact Ht
    iexact Hv
  iintro Hf
  iapply (wait_pay m K c (dstw := cw0) (D := own c cw0 fullShare.left (xT m (prv c))) 1 6 rfl rfl rfl) $$ [HO Hc Ha]
  · isplitr; · iexact He
    isplitl [HO]; · iexact HO
    isplitl [Hc]; · iexact Hc
    iexact Ha
  iintro ⟨HO, Hp, Hv⟩
  simp only [wp_ret]
  imodintro
  isplitl [HO]; · iexact HO
  isplitl [Ht1]; · iexact Ht1
  isplitl [H8]; · iexact H8
  isplitl [Hf]; · iexact Hf
  isplitl [Hp]; · iexact Hp
  iexact Hv

/-- The second copies have landed, and the one to the left has left. -/
theorem part12 (v5 v7 : BitVec 32) :
    iprop(env m K ∗ ow c 6 ∗ (cred (tallyAt (dC c (q 11)) () N) ∗ atPos ER (dC c (q 11)) 0 ∅ 0) ∗ (cred (tallyAt (dC c (q 14)) () N) ∗ atPos ER (dC c (q 14)) 0 ∅ 0) ∗ (cred (tallyAt (dC c (q 17)) () N) ∗ atPos ER (dC c (q 17)) 0 ∅ 0))
      ⊢ wpc c (k0_part12_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 v5 v7)
          (fun _ => iprop(ow c 6 ∗ own c cw1 fullShare (xT m (prv (prv c))) ∗ semVal (dC c (q 11)) 0 ∗ own c ccw0 fullShare.left (xB m (nxt c)) ∗ semVal (dC c (q 14)) 0 ∗ own c ccw1 fullShare (xB m (nxt (nxt c))) ∗ semVal (dC c (q 17)) 0)) := by
  unfold k0_part12_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, ⟨Hc7, Ha7⟩, ⟨Hc10, Ha10⟩, ⟨Hc13, Ha13⟩⟩
  iapply (wait_pay m K c (dstw := cw1) (D := own c cw1 fullShare (xT m (prv (prv c)))) 4 6 rfl rfl rfl) $$ [HO Hc7 Ha7]
  · isplitr; · iexact He
    isplitl [HO]; · iexact HO
    isplitl [Hc7]; · iexact Hc7
    iexact Ha7
  iintro ⟨HO, Hp7, Hv7⟩
  iapply (wait_pay m K c (dstw := ccw0) (D := own c ccw0 fullShare.left (xB m (nxt c))) 7 6 rfl rfl rfl) $$ [HO Hc10 Ha10]
  · isplitr; · iexact He
    isplitl [HO]; · iexact HO
    isplitl [Hc10]; · iexact Hc10
    iexact Ha10
  iintro ⟨HO, Hp10, Hv10⟩
  iapply (wait_pay m K c (dstw := ccw1) (D := own c ccw1 fullShare (xB m (nxt (nxt c)))) 10 6 rfl rfl rfl) $$ [HO Hc13 Ha13]
  · isplitr; · iexact He
    isplitl [HO]; · iexact HO
    isplitl [Hc13]; · iexact Hc13
    iexact Ha13
  iintro ⟨HO, Hp13, Hv13⟩
  simp only [wp_ret]
  imodintro
  isplitl [HO]; · iexact HO
  isplitl [Hp7]; · iexact Hp7
  isplitl [Hv7]; · iexact Hv7
  isplitl [Hp10]; · iexact Hp10
  isplitl [Hv10]; · iexact Hv10
  isplitl [Hp13]; · iexact Hp13
  iexact Hv13

end Cert.RingProof

end
-- ==== Proof.Parts4.lean ====
/-
# Parts4: the kernel’s body from the last copies to the last tile

Parts 13 to 17 of the printed body.
-/
module

public import proofs.«01_k».proof.Proof.Moves

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The last copies start, out of the slots just landed in; the first output slot is free again. -/
theorem part13 (v2 v5 : BitVec 32) :
    iprop(env m K ∗ ow c 6 ∗ (own c cw1 fullShare (xT m (prv (prv c))) ∗ free (nxt c) cw2 ∗ dutyTok ER (dC c (q 9)) 0 false ∗ dutyTok ER (dC (nxt c) (q 12)) 0 false) ∗ (own c ccw1 fullShare (xB m (nxt (nxt c))) ∗ free (prv c) ccw2 ∗ dutyTok ER (dC c (q 15)) 0 false ∗ dutyTok ER (dC (prv c) (q 18)) 0 false) ∗ oFlight m c (q 5) oS0 2 ∗ own c w8M fullShare (W8 m c))
      ⊢ wpc c (k0_part13_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v2 v5)
          (fun r => iprop(⌜r.2.1 = tX m c 4 ∧ r.2.2.1 = W8 m c ∧ r.2.2.2 = constant S512x2048 .f32 0x00000000#32⌝ ∗ ow c 8 ∗ own c cw1 fullShare.right (xT m (prv (prv c))) ∗ own c ccw1 fullShare.right (xB m (nxt (nxt c))) ∗ cred (tallyAt (dC c (q 9)) () N) ∗ cred (tallyAt (dC c (q 15)) () N) ∗ own c (oTile c 2) fullShare (outT m c 2) ∗ free c oS0 ∗ semVal (dC c (q 5)) 0 ∗ own c w8M fullShare (W8 m c))) := by
  unfold k0_part13_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, ⟨Hcw, Hd, Ht, Ht'⟩, ⟨Hcc, Hd', Hu, Hu'⟩, Hf, H8⟩
  ihave Hcw := (own_split c cw1 _) $$ Hcw
  icases Hcw with ⟨HcL, HcR⟩
  iapply (send m K c (src := cw1) (dst := cw2) (nxt c) (dev7_eq c) 2 5 6 rfl rfl .rfl (by rw [show dmaPay m (nxt c) (7 + (5 : Fin 12).val) = own (nxt c) cw2 fullShare (xT m (prv (prv (prv (nxt c))))) from rfl, prv_nxt])) $$ [HO HcL Hd Ht Ht']
  · isplitr; · iexact He
    isplitl [HO]; · iexact HO
    isplitl [HcL]; · iexact HcL
    isplitl [Hd]; · iexact Hd
    isplitl [Ht]; · iexact Ht
    iexact Ht'
  iintro ⟨HO, Hc8⟩
  ihave Hcc := (own_split c ccw1 _) $$ Hcc
  icases Hcc with ⟨HdL, HdR⟩
  iapply (send m K c (src := ccw1) (dst := ccw2) (prv c) (dev8_eq c) 8 11 7 rfl rfl .rfl (by rw [show dmaPay m (prv c) (7 + (11 : Fin 12).val) = own (prv c) ccw2 fullShare (xB m (nxt (nxt (nxt (prv c))))) from rfl, nxt_prv])) $$ [HO HdL Hd' Hu Hu']
  · isplitr; · iexact He
    isplitl [HO]; · iexact HO
    isplitl [HdL]; · iexact HdL
    isplitl [Hd']; · iexact Hd'
    isplitl [Hu]; · iexact Hu
    iexact Hu'
  iintro ⟨HO, Hc14⟩
  iapply (load_slot c (r := rR1) (hc := shapeCasts_S1x512x4096_S512x4096)) $$ HcR
  iintro %v %hv HcR
  iapply (wait_local m K c 8 rfl rfl) $$ [HO Hf]
  · isplitr; · iexact He
    isplitl [HO]; · iexact HO
    iexact Hf
  iintro ⟨HO, ⟨Ht0, Hs⟩, Hv⟩
  ihave Hs := (free_of_own c _ (outT m c 2)) $$ Hs
  iapply (load_all c) $$ H8
  iintro H8
  simp only [wp_ret]
  imodintro
  isplitr; · (ipureintro; exact ⟨hv, trivial, trivial⟩)
  isplitl [HO]; · iexact HO
  isplitl [HcR]; · iexact HcR
  isplitl [HdR]; · iexact HdR
  isplitl [Hc8]; · iexact Hc8
  isplitl [Hc14]; · iexact Hc14
  isplitl [Ht0]; · iexact Ht0
  isplitl [Hs]; · iexact Hs
  isplitl [Hv]; · iexact Hv
  iexact H8

/-- The fifth tile takes the first output slot; the sixth is computed, and the second slot is free again. -/
theorem part14 (v348 : BitVec 32) (v350 : FVec F S512x4096 .fp8e5m2) (hv : v350 = tX m c 4) :
    iprop(env m K ∗ ow c 8 ∗ free c oS0 ∗ free c (oTile c 4) ∗ semVal (dC c (q 5)) 0 ∗ own c ccw1 fullShare.right (xB m (nxt (nxt c))) ∗ oFlight m c (q 6) oS1 3 ∗ own c w8M fullShare (W8 m c))
      ⊢ wpc c (k0_part14_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c (sc m c) v348 v350 (W8 m c) (constant S512x2048 .f32 0x00000000#32))
          (fun r => iprop(⌜shapeCast S512x2048 r shapeCasts_S1x512x2048_S512x2048 = outT m c 5⌝ ∗ ow c 8 ∗ oFlight m c (q 5) oS0 4 ∗ own c ccw1 fullShare.right (xB m (nxt (nxt c))) ∗ own c (oTile c 3) fullShare (outT m c 3) ∗ free c oS1 ∗ semVal (dC c (q 6)) 0 ∗ own c w8M fullShare (W8 m c))) := by
  unfold k0_part14_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  subst hv
  iintro ⟨#He, HO, Hs, Ht, Hv, Hd, Hf, H8⟩
  iapply (put c (rD := rD0) (hc := shapeCasts_S1x512x2048_S512x2048) (X := outT m c 4) (pay17_eq _ _ _)) $$ Hs
  iintro Hs
  iapply (copy_own c (by decide)) $$ [Hs Ht Hv]
  · isplitl [Hs]; · iexact Hs
    isplitl [Ht]; · iexact Ht
    iexact Hv
  iintro Hg
  iapply (load_slot c (r := rR1) (hc := shapeCasts_S1x512x4096_S512x4096)) $$ Hd
  iintro %v' %hv' Hd
  iapply (wait_local m K c 8 rfl rfl) $$ [HO Hf]
  · isplitr; · iexact He
    isplitl [HO]; · iexact HO
    iexact Hf
  iintro ⟨HO, ⟨Ht0, Hs⟩, Hv⟩
  ihave Hs := (free_of_own c _ (outT m c 3)) $$ Hs
  iapply (load_all c) $$ H8
  iintro H8
  iapply (load_free_slot c) $$ Hs
  iintro %w Hs
  simp only [wp_ret]
  imodintro
  isplitr; · (ipureintro; exact pay18_eq _ _ _ _ hv')
  isplitl [HO]; · iexact HO
  isplitl [Hg]; · iexact Hg
  isplitl [Hd]; · iexact Hd
  isplitl [Ht0]; · iexact Ht0
  isplitl [Hs]; · iexact Hs
  isplitl [Hv]; · iexact Hv
  iexact H8

/-- The sixth tile takes the second output slot; the last copy to the right has left and the one from the left has landed. -/
theorem part15 (v7 : BitVec 32) (v388 : FVec F S1x512x2048 .f32) (hv : shapeCast S512x2048 v388 shapeCasts_S1x512x2048_S512x2048 = outT m c 5) :
    iprop(env m K ∗ ow c 8 ∗ free c oS1 ∗ free c (oTile c 5) ∗ semVal (dC c (q 6)) 0 ∗ (cred (tallyAt (dC c (q 9)) () N) ∗ atPos ER (dC c (q 9)) 0 ∅ 0) ∗ (cred (tallyAt (dC c (q 12)) () N) ∗ atPos ER (dC c (q 12)) 0 ∅ 0))
      ⊢ wpc c (k0_part15_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v7 v388)
          (fun _ => iprop(ow c 8 ∗ oFlight m c (q 6) oS1 5 ∗ own c cw1 fullShare.left (xT m (prv (prv c))) ∗ semVal (dC c (q 9)) 0 ∗ own c cw2 fullShare (xT m (prv (prv (prv c)))) ∗ semVal (dC c (q 12)) 0)) := by
  unfold k0_part15_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, Hs, Ht, Hv, ⟨Hc7, Ha7⟩, ⟨Hc10, Ha10⟩⟩
  iapply (store_slot c (r := rD1) (hc := shapeCasts_S1x512x2048_S512x2048) hv) $$ Hs
  iintro Hs
  iapply (copy_own c (by decide)) $$ [Hs Ht Hv]
  · isplitl [Hs]; · iexact Hs
    isplitl [Ht]; · iexact Ht
    iexact Hv
  iintro Hf
  iapply (wait_pay m K c (dstw := cw1) (D := own c cw1 fullShare.left (xT m (prv (prv c)))) 2 8 rfl rfl rfl) $$ [HO Hc7 Ha7]
  · isplitr; · iexact He
    isplitl [HO]; · iexact HO
    isplitl [Hc7]; · iexact Hc7
    iexact Ha7
  iintro ⟨HO, Hp7, Hv7⟩
  iapply (wait_pay m K c (dstw := cw2) (D := own c cw2 fullShare (xT m (prv (prv (prv c))))) 5 8 rfl rfl rfl) $$ [HO Hc10 Ha10]
  · isplitr; · iexact He
    isplitl [HO]; · iexact HO
    isplitl [Hc10]; · iexact Hc10
    iexact Ha10
  iintro ⟨HO, Hp10, Hv10⟩
  simp only [wp_ret]
  imodintro
  isplitl [HO]; · iexact HO
  isplitl [Hf]; · iexact Hf
  isplitl [Hp7]; · iexact Hp7
  isplitl [Hv7]; · iexact Hv7
  isplitl [Hp10]; · iexact Hp10
  iexact Hv10

/-- The last copy to the left has left and the one from the right has landed; the seventh tile is computed. -/
theorem part16 (v2 v5 : BitVec 32) :
    iprop(env m K ∗ ow c 8 ∗ (cred (tallyAt (dC c (q 15)) () N) ∗ atPos ER (dC c (q 15)) 0 ∅ 0) ∗ (cred (tallyAt (dC c (q 18)) () N) ∗ atPos ER (dC c (q 18)) 0 ∅ 0) ∗ own c cw2 fullShare (xT m (prv (prv (prv c)))) ∗ oFlight m c (q 5) oS0 4 ∗ own c w8M fullShare (W8 m c))
      ⊢ wpc c (k0_part16_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c v2 v5 (sc m c))
          (fun r => iprop(⌜shapeCast S512x2048 (k0_pay20 r.2) shapeCasts_S1x512x2048_S512x2048 = outT m c 6⌝ ∗ ow c 8 ∗ own c ccw1 fullShare.left (xB m (nxt (nxt c))) ∗ semVal (dC c (q 15)) 0 ∗ own c ccw2 fullShare (xB m (nxt (nxt (nxt c)))) ∗ semVal (dC c (q 18)) 0 ∗ own c cw2 fullShare (xT m (prv (prv (prv c)))) ∗ own c (oTile c 4) fullShare (outT m c 4) ∗ free c oS0 ∗ semVal (dC c (q 5)) 0 ∗ own c w8M fullShare (W8 m c))) := by
  unfold k0_part16_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, ⟨Hc7, Ha7⟩, ⟨Hc10, Ha10⟩, Hc, Hf, H8⟩
  iapply (wait_pay m K c (dstw := ccw1) (D := own c ccw1 fullShare.left (xB m (nxt (nxt c)))) 8 8 rfl rfl rfl) $$ [HO Hc7 Ha7]
  · isplitr; · iexact He
    isplitl [HO]; · iexact HO
    isplitl [Hc7]; · iexact Hc7
    iexact Ha7
  iintro ⟨HO, Hp7, Hv7⟩
  iapply (wait_pay m K c (dstw := ccw2) (D := own c ccw2 fullShare (xB m (nxt (nxt (nxt c))))) 11 8 rfl rfl rfl) $$ [HO Hc10 Ha10]
  · isplitr; · iexact He
    isplitl [HO]; · iexact HO
    isplitl [Hc10]; · iexact Hc10
    iexact Ha10
  iintro ⟨HO, Hp10, Hv10⟩
  iapply (load_slot c (r := rR2) (hc := shapeCasts_S1x512x4096_S512x4096)) $$ Hc
  iintro %v %hv Hc
  iapply (wait_local m K c 8 rfl rfl) $$ [HO Hf]
  · isplitr; · iexact He
    isplitl [HO]; · iexact HO
    iexact Hf
  iintro ⟨HO, ⟨Ht0, Hs⟩, Hv⟩
  ihave Hs := (free_of_own c _ (outT m c 4)) $$ Hs
  iapply (load_all c) $$ H8
  iintro H8
  simp only [wp_ret]
  imodintro
  isplitr; · (ipureintro; exact pay20_eq _ _ _ _ hv)
  isplitl [HO]; · iexact HO
  isplitl [Hp7]; · iexact Hp7
  isplitl [Hv7]; · iexact Hv7
  isplitl [Hp10]; · iexact Hp10
  isplitl [Hv10]; · iexact Hv10
  isplitl [Hc]; · iexact Hc
  isplitl [Ht0]; · iexact Ht0
  isplitl [Hs]; · iexact Hs
  isplitl [Hv]; · iexact Hv
  iexact H8

/-- The seventh tile takes the first output slot, the eighth the second. -/
theorem part17 (v426 : BitVec 32) (v440 : FVec F S512x2048 .f32) (hv : shapeCast S512x2048 (k0_pay20 v440) shapeCasts_S1x512x2048_S512x2048 = outT m c 6) :
    iprop(env m K ∗ ow c 8 ∗ free c oS0 ∗ free c (oTile c 6) ∗ semVal (dC c (q 5)) 0 ∗ own c ccw2 fullShare (xB m (nxt (nxt (nxt c)))) ∗ oFlight m c (q 6) oS1 5 ∗ own c w8M fullShare (W8 m c))
      ⊢ wpc c (k0_part17_skel (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11 c (sc m c) v426 v440)
          (fun _ => iprop(ow c 8 ∗ oFlight m c (q 5) oS0 6 ∗ own c ccw2 fullShare (xB m (nxt (nxt (nxt c)))) ∗ own c (oTile c 5) fullShare (outT m c 5) ∗ own c oS1 fullShare (outT m c 7) ∗ semVal (dC c (q 6)) 0 ∗ own c w8M fullShare (W8 m c))) := by
  unfold k0_part17_skel
  simp only [semSignalWord, semWaitWord, smemLoad, Prog.lift, Prog.bind_op, Prog.bind_ret, Prog.pure_eq_ret, ws0_eq, ws1_eq, os0_eq, os1_eq, cs0_eq, cs1_eq, cs2_eq, cr0_eq, cr1_eq, cr2_eq, ds0_eq, ds1_eq, ds2_eq, dr0_eq, dr1_eq, dr2_eq]
  iintro ⟨#He, HO, Hs, Ht, Hv, Hd, Hf, H8⟩
  iapply (put c (rD := rD0) (hc := shapeCasts_S1x512x2048_S512x2048) (X := outT m c 6) hv) $$ Hs
  iintro Hs
  iapply (copy_own c (by decide)) $$ [Hs Ht Hv]
  · isplitl [Hs]; · iexact Hs
    isplitl [Ht]; · iexact Ht
    iexact Hv
  iintro Hg
  iapply (load_slot c (r := rR2) (hc := shapeCasts_S1x512x4096_S512x4096)) $$ Hd
  iintro %v' %hv' Hd
  iapply (wait_local m K c 8 rfl rfl) $$ [HO Hf]
  · isplitr; · iexact He
    isplitl [HO]; · iexact HO
    iexact Hf
  iintro ⟨HO, ⟨Ht0, Hs⟩, Hv⟩
  ihave Hs := (free_of_own c _ (outT m c 5)) $$ Hs
  iapply (load_all c) $$ H8
  iintro H8
  iapply (put c (rD := rD1) (hc := shapeCasts_S1x512x2048_S512x2048) (X := outT m c 7) (pay21_eq _ _ _ _ hv')) $$ Hs
  iintro Hs
  simp only [wp_ret]
  imodintro
  isplitl [HO]; · iexact HO
  isplitl [Hg]; · iexact Hg
  isplitl [Hd]; · iexact Hd
  isplitl [Ht0]; · iexact Ht0
  isplitl [Hs]; · iexact Hs
  isplitl [Hv]; · iexact Hv
  iexact H8

end Cert.RingProof

end
-- ==== Proof.Split.lean ====
/-
# Split: buffers as the parts the kernel works on

The halves of the cast block of `x`, the slots of the scratch buffers, the row blocks of the cast weights and the tiles of
the result: each family is disjoint and covers its buffer.
-/
module

public import proofs.«01_k».proof.Proof.Moves

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## Rectangles of rows -/

/-- An index lies in a rectangle of whole rows when its row does. -/
theorem mem_row2 {d : Fin 2 → ℕ} (r : Rect ⟨2, d⟩) (R k : ℕ) (hst : ∀ a, r.stride a = 1) (ho : r.off = ![R * k, 0])
    (hs : r.size = ![R, d 1]) (i : (⟨2, d⟩ : Shape).Idx) :
    i ∈ r.set ↔ R * k ≤ (i 0).val ∧ (i 0).val < R * k + R := by
  rw [LoadRect.mem_set]
  simp only [hst, ho, hs, Nat.one_mul]
  constructor
  · intro h
    obtain ⟨j, hj, e⟩ := h 0
    have hj : j < R := hj
    have e : (i 0).val = R * k + j := e
    omega
  · intro h a
    match a with
    | 0 => exact ⟨(i 0).val - R * k, show _ < R by omega, show _ = R * k + _ by omega⟩
    | 1 => exact ⟨(i 1).val, (i 1).isLt, (Nat.zero_add _).symm⟩

/-- The same in three dimensions. -/
theorem mem_row3 {d : Fin 3 → ℕ} (r : Rect ⟨3, d⟩) (R k : ℕ) (hst : ∀ a, r.stride a = 1) (ho : r.off = ![R * k, 0, 0])
    (hs : r.size = ![R, d 1, d 2]) (i : (⟨3, d⟩ : Shape).Idx) :
    i ∈ r.set ↔ R * k ≤ (i 0).val ∧ (i 0).val < R * k + R := by
  rw [LoadRect.mem_set]
  simp only [hst, ho, hs, Nat.one_mul]
  constructor
  · intro h
    obtain ⟨j, hj, e⟩ := h 0
    have hj : j < R := hj
    have e : (i 0).val = R * k + j := e
    omega
  · intro h a
    match a with
    | 0 => exact ⟨(i 0).val - R * k, show _ < R by omega, show _ = R * k + _ by omega⟩
    | 1 => exact ⟨(i 1).val, (i 1).isLt, (Nat.zero_add _).symm⟩
    | 2 => exact ⟨(i 2).val, (i 2).isLt, (Nat.zero_add _).symm⟩

section Rows
variable {s : Shape} {T : Type} [Fintype T] (r : T → Rect s) (row : s.Idx → ℕ) (R : ℕ) (k : T → ℕ)
  (h : ∀ t i, i ∈ (r t).set ↔ R * k t ≤ row i ∧ row i < R * k t + R)
include h

omit [Fintype T] in
/-- Different row blocks are disjoint. -/
theorem rows_disjoint (hk : Function.Injective k) (t t' : T) (htt : t ≠ t') : Disjoint (r t).set (r t').set := by
  rw [Finset.disjoint_left]
  intro i hi hi'
  have h1 := (h t i).mp hi
  have h2 := (h t' i).mp hi'
  rcases Nat.lt_or_gt_of_ne (fun e => htt (hk e)) with hlt | hlt
  · have := Nat.mul_le_mul_left R (Nat.succ_le_of_lt hlt); rw [Nat.mul_succ] at this; omega
  · have := Nat.mul_le_mul_left R (Nat.succ_le_of_lt hlt); rw [Nat.mul_succ] at this; omega

/-- Every row is in a row block. -/
theorem rows_cover (hR : 0 < R) (n : ℕ) (hn : ∀ i, row i < R * n) (hs : ∀ b : Fin n, ∃ t, k t = b.val) :
    (Finset.univ : Finset T).biUnion (fun t => (r t).set) = Finset.univ := by
  ext i
  simp only [Finset.mem_biUnion, Finset.mem_univ, true_and, iff_true]
  obtain ⟨t, ht⟩ := hs ⟨row i / R, (Nat.div_lt_iff_lt_mul hR).mpr (by rw [Nat.mul_comm]; exact hn i)⟩
  refine ⟨t, (h t i).mpr ?_⟩
  rw [ht]
  refine ⟨Nat.mul_div_le _ _, ?_⟩
  have h1 := Nat.div_add_mod (row i) R
  have h2 := Nat.mod_lt (row i) hR
  show row i < R * (row i / R) + R
  omega

end Rows

/-! ## A memref held in parts -/

section Parts
variable (c : Dev nD) {sp : Space} {sh : Shape} {e : EltTy} (mm : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

omit [FloatOps F] [DecidableEq T] in
/-- A memref held whole is its parts held whole, -/
theorem free_rects : free (F := F) c mm ⊢ BI.bigSep Finset.univ fun t => free c (mm.slice (r t) (hr t)) := by
  iintro H
  ihave H := (own_of_free c mm) $$ H
  icases H with ⟨%X, H⟩
  ihave H := (owns_rects (c : Thread nD τ) mm fullShare r hr hd hcov X) $$ H
  have h : (bigSep Finset.univ fun t => own (F := F) c (mm.slice (r t) (hr t)) fullShare fun j => X ((r t).emb j))
      ⊢ bigSep Finset.univ fun t => free c (mm.slice (r t) (hr t)) := bigSep_mono fun t _ => free_of_own c (mm.slice (r t) (hr t)) fun j => X ((r t).emb j)
  iapply h $$ H

omit [FloatOps F] in
/-- and its parts held whole are the memref held whole. -/
theorem free_of_rects [∀ e, Nonempty (Elt F e)] : (BI.bigSep Finset.univ fun t => free (F := F) c (mm.slice (r t) (hr t))) ⊢ free c mm := by
  have hset : (Finset.univ : Finset T).biUnion (fun t => (mm.slice (r t) (hr t)).view.set) = mm.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      refine Finset.mem_biUnion.mpr ⟨t, Finset.mem_univ _, ?_⟩
      show mm.view.emb x ∈ (mm.view.slice (r t)).set
      rw [View.set_slice]; exact Finset.mem_map_of_mem _ hx
  unfold free
  iintro H
  ihave H := (BI.bigSep_exists_pi Finset.univ fun (t : T) (f : Buf (Elt F) (mm.view.loc (c : Thread nD τ))) =>
    (iprop(mm.view.loc (c : Thread nD τ) ↦[(mm.slice (r t) (hr t)).view.set]{fullShare} f) : sProp 𝕄)) $$ H
  icases H with ⟨%fs, H⟩
  ihave H := (pointsTo_biUnion_join Finset.univ (fun t => (mm.slice (r t) (hr t)).view.set) fs (fun _ => Classical.choice inferInstance)
    (fun t _ t' _ htt => by
      show Disjoint (mm.view.slice (r t)).set (mm.view.slice (r t')).set
      rw [View.set_slice, View.set_slice]; exact (Finset.disjoint_map _).mpr (hd t t' htt))) $$ H
  icases H with ⟨%g, -, H⟩
  iexists g
  rw [hset]
  iexact H

end Parts

omit [FloatOps F] in
/-- A whole buffer held at some contents. -/
theorem free_whole (c : Dev nD) (b : Ref sig .tc) :
    free (F := F) c (Memref.whole b) = iprop(∃ f : Buf (Elt F) ((c : Thread nD τ).loc b), ((c : Thread nD τ).loc b) ↦{fullShare} f) := by
  unfold free; simp only [Memref.view_whole, View.set_whole]

/-! ## The kernel's families -/

/-- the two halves, -/
abbrev rH : Fin 2 → Rect S1024x4096 | 0 => rTop | 1 => rBot
/-- the two slots, -/
abbrev rD : Fin 2 → Rect S2x512x2048 | 0 => rD0 | 1 => rD1
/-- the three slots. -/
abbrev rR : Fin 3 → Rect S3x512x4096 | 0 => rR0 | 1 => rR1 | 2 => rR2

theorem rH_stride : ∀ t a, (rH t).stride a = 1 := fun t a => by fin_cases t <;> rfl
theorem rH_off : ∀ t, (rH t).off = ![512 * t.val, 0] := fun t => by fin_cases t <;> rfl
theorem rH_size : ∀ t, (rH t).size = ![512, 4096] := fun t => by fin_cases t <;> rfl
theorem rH_rows (t : Fin 2) (i : S1024x4096.Idx) : i ∈ (rH t).set ↔ 512 * t.val ≤ (i 0).val ∧ (i 0).val < 512 * t.val + 512 :=
  mem_row2 (d := ![1024, 4096]) (rH t) 512 t.val (rH_stride t) (rH_off t) (rH_size t) i

theorem rD_stride : ∀ t a, (rD t).stride a = 1 := fun t a => by fin_cases t <;> rfl
theorem rD_off : ∀ t, (rD t).off = ![1 * t.val, 0, 0] := fun t => by fin_cases t <;> rfl
theorem rD_size : ∀ t, (rD t).size = ![1, 512, 2048] := fun t => by fin_cases t <;> rfl
theorem rD_rows (t : Fin 2) (i : S2x512x2048.Idx) : i ∈ (rD t).set ↔ 1 * t.val ≤ (i 0).val ∧ (i 0).val < 1 * t.val + 1 :=
  mem_row3 (d := ![2, 512, 2048]) (rD t) 1 t.val (rD_stride t) (rD_off t) (rD_size t) i

theorem rR_stride : ∀ t a, (rR t).stride a = 1 := fun t a => by fin_cases t <;> rfl
theorem rR_off : ∀ t, (rR t).off = ![1 * t.val, 0, 0] := fun t => by fin_cases t <;> rfl
theorem rR_size : ∀ t, (rR t).size = ![1, 512, 4096] := fun t => by fin_cases t <;> rfl
theorem rR_rows (t : Fin 3) (i : S3x512x4096.Idx) : i ∈ (rR t).set ↔ 1 * t.val ≤ (i 0).val ∧ (i 0).val < 1 * t.val + 1 :=
  mem_row3 (d := ![3, 512, 4096]) (rR t) 1 t.val (rR_stride t) (rR_off t) (rR_size t) i

theorem rW_off : ∀ t, (rW t).off = ![512 * t.val, 0] := fun t => by fin_cases t <;> rfl
theorem rW_size : ∀ t, (rW t).size = ![512, 2048] := fun t => by fin_cases t <;> rfl
theorem rW_rows (t : Fin 8) (i : S4096x2048.Idx) : i ∈ (rW t).set ↔ 512 * t.val ≤ (i 0).val ∧ (i 0).val < 512 * t.val + 512 :=
  mem_row2 (d := ![4096, 2048]) (rW t) 512 t.val (rW_stride t) (rW_off t) (rW_size t) i

/-- The row block of tile `t` of device `c`. -/
def kO (c : Dev nD) (t : Fin 8) : ℕ :=
  match t with
  | 0 => 2 * c.val | 1 => 2 * c.val + 1 | 2 => 2 * (prv c).val | 3 => 2 * (nxt c).val + 1 | 4 => 2 * (prv (prv c)).val
  | 5 => 2 * (nxt (nxt c)).val + 1 | 6 => 2 * (prv (prv (prv c))).val | 7 => 2 * (nxt (nxt (nxt c))).val + 1
theorem kO_inj : ∀ c : Dev nD, ∀ t t', kO c t = kO c t' → t = t' := by decide +kernel
theorem kO_surj : ∀ c : Dev nD, ∀ b : Fin 8, ∃ t, kO c t = b.val := by decide +kernel
theorem rO_off (c : Dev nD) : ∀ t, (rO c t).off = ![512 * kO c t, 0]
  | 0 => off9_rows c | 1 => off10_rows c | 2 => off11_rows c | 3 => off12_rows c
  | 4 => off11_rows' c | 5 => off12_rows' c | 6 => off13_rows c | 7 => off14_rows c
theorem rO_size (c : Dev nD) : ∀ t, (rO c t).size = ![512, 2048] := fun t => by fin_cases t <;> rfl
theorem rO_rows (c : Dev nD) (t : Fin 8) (i : S4096x2048.Idx) : i ∈ (rO c t).set ↔ 512 * kO c t ≤ (i 0).val ∧ (i 0).val < 512 * kO c t + 512 :=
  mem_row2 (d := ![4096, 2048]) (rO c t) 512 (kO c t) (rO_stride c t) (rO_off c t) (rO_size c t) i

theorem rH_disj : ∀ t t', t ≠ t' → Disjoint (rH t).set (rH t').set :=
  rows_disjoint rH (fun i => (i 0).val) 512 (fun t : Fin 2 => t.val) (rH_rows) (fun _ _ h => Fin.ext h)
theorem rH_cov : (Finset.univ : Finset (Fin 2)).biUnion (fun t => (rH t).set) = Finset.univ :=
  rows_cover rH (fun i => (i 0).val) 512 (fun t : Fin 2 => t.val) (rH_rows) (by decide) 2 (fun i => (i 0).isLt) (fun b => ⟨b, rfl⟩)
theorem rD_disj : ∀ t t', t ≠ t' → Disjoint (rD t).set (rD t').set :=
  rows_disjoint rD (fun i => (i 0).val) 1 (fun t : Fin 2 => t.val) (rD_rows) (fun _ _ h => Fin.ext h)
theorem rD_cov : (Finset.univ : Finset (Fin 2)).biUnion (fun t => (rD t).set) = Finset.univ :=
  rows_cover rD (fun i => (i 0).val) 1 (fun t : Fin 2 => t.val) (rD_rows) (by decide) 2 (fun i => (i 0).isLt) (fun b => ⟨b, rfl⟩)
theorem rR_disj : ∀ t t', t ≠ t' → Disjoint (rR t).set (rR t').set :=
  rows_disjoint rR (fun i => (i 0).val) 1 (fun t : Fin 3 => t.val) (rR_rows) (fun _ _ h => Fin.ext h)
theorem rR_cov : (Finset.univ : Finset (Fin 3)).biUnion (fun t => (rR t).set) = Finset.univ :=
  rows_cover rR (fun i => (i 0).val) 1 (fun t : Fin 3 => t.val) (rR_rows) (by decide) 3 (fun i => (i 0).isLt) (fun b => ⟨b, rfl⟩)
theorem rW_disj : ∀ t t', t ≠ t' → Disjoint (rW t).set (rW t').set :=
  rows_disjoint rW (fun i => (i 0).val) 512 (fun t : Fin 8 => t.val) (rW_rows) (fun _ _ h => Fin.ext h)
theorem rW_cov : (Finset.univ : Finset (Fin 8)).biUnion (fun t => (rW t).set) = Finset.univ :=
  rows_cover rW (fun i => (i 0).val) 512 (fun t : Fin 8 => t.val) (rW_rows) (by decide) 8 (fun i => (i 0).isLt) (fun b => ⟨b, rfl⟩)
theorem rO_disj (c : Dev nD) : ∀ t t', t ≠ t' → Disjoint ((rO c) t).set ((rO c) t').set :=
  rows_disjoint (rO c) (fun i => (i 0).val) 512 (kO c) (rO_rows c) (fun t t' => kO_inj c t t')
theorem rO_cov (c : Dev nD) : (Finset.univ : Finset (Fin 8)).biUnion (fun t => ((rO c) t).set) = Finset.univ :=
  rows_cover (rO c) (fun i => (i 0).val) 512 (kO c) (rO_rows c) (by decide) 8 (fun i => (i 0).isLt) (kO_surj c)

/-! ## The splits and joins the body uses -/

/-- Eight things in a row. -/
theorem bigSep8 (P : Fin 8 → sProp 𝕄) :
    BI.bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]
  rfl
theorem bigSep3 (P : Fin 3 → sProp 𝕄) : BI.bigSep Finset.univ P = iprop(P 0 ∗ P 1 ∗ P 2) := by
  rw [bigSep_univ_eq_bigSepL [0, 1, 2] (by decide) (by decide)]
  rfl
theorem bigSep2 (P : Fin 2 → sProp 𝕄) : BI.bigSep Finset.univ P = iprop(P 0 ∗ P 1) := by
  rw [bigSep_univ_eq_bigSepL [0, 1] (by decide) (by decide)]
  rfl

variable (m : (ℓ : Loc nD τ sig) → Buf (Elt F) ℓ) (c : Dev nD)

/-- The cast block of `x` in its halves. -/
theorem x8_split : own c x8M fullShare (X8 m c) ⊢ iprop(own c x8T fullShare (xT m c) ∗ own c x8B fullShare (xB m c)) := by
  have h := owns_rects (Val := Elt F) (Ix := Unit) (Name := ℕ) (U := UU) (Lvl := ℕ) (c : Thread nD τ) x8M fullShare rH rH_stride rH_disj rH_cov (X8 m c)
  rw [bigSep2] at h; exact h

variable [∀ e, Nonempty (Elt F e)]

theorem x8_join : iprop(free c x8T ∗ free c x8B) ⊢ free (F := F) c x8M := by
  have h := free_of_rects (F := F) c x8M rH rH_stride rH_disj rH_cov
  rw [bigSep2] at h; exact h

omit [∀ e, Nonempty (Elt F e)] in
theorem ws_split : free (F := F) c wsM ⊢ iprop(free c wS0 ∗ free c wS1) := by
  have h := free_rects (F := F) c wsM rD rD_stride rD_disj rD_cov
  rw [bigSep2] at h; rw [free_squeeze, free_squeeze]; exact h
theorem ws_join : iprop(free c wS0 ∗ free c wS1) ⊢ free (F := F) c wsM := by
  have h := free_of_rects (F := F) c wsM rD rD_stride rD_disj rD_cov
  rw [bigSep2] at h; rw [free_squeeze, free_squeeze]; exact h
omit [∀ e, Nonempty (Elt F e)] in
theorem os_split : free (F := F) c osM ⊢ iprop(free c oS0 ∗ free c oS1) := by
  have h := free_rects (F := F) c osM rD rD_stride rD_disj rD_cov
  rw [bigSep2] at h; rw [free_squeeze, free_squeeze]; exact h
theorem os_join : iprop(free c oS0 ∗ free c oS1) ⊢ free (F := F) c osM := by
  have h := free_of_rects (F := F) c osM rD rD_stride rD_disj rD_cov
  rw [bigSep2] at h; rw [free_squeeze, free_squeeze]; exact h
omit [∀ e, Nonempty (Elt F e)] in
theorem cw_split : free (F := F) c cwM ⊢ iprop(free c cw0 ∗ free c cw1 ∗ free c cw2) := by
  have h := free_rects (F := F) c cwM rR rR_stride rR_disj rR_cov
  rw [bigSep3] at h; rw [free_squeeze, free_squeeze, free_squeeze]; exact h
theorem cw_join : iprop(free c cw0 ∗ free c cw1 ∗ free c cw2) ⊢ free (F := F) c cwM := by
  have h := free_of_rects (F := F) c cwM rR rR_stride rR_disj rR_cov
  rw [bigSep3] at h; rw [free_squeeze, free_squeeze, free_squeeze]; exact h
omit [∀ e, Nonempty (Elt F e)] in
theorem ccw_split : free (F := F) c ccM ⊢ iprop(free c ccw0 ∗ free c ccw1 ∗ free c ccw2) := by
  have h := free_rects (F := F) c ccM rR rR_stride rR_disj rR_cov
  rw [bigSep3] at h; rw [free_squeeze, free_squeeze, free_squeeze]; exact h
theorem ccw_join : iprop(free c ccw0 ∗ free c ccw1 ∗ free c ccw2) ⊢ free (F := F) c ccM := by
  have h := free_of_rects (F := F) c ccM rR rR_stride rR_disj rR_cov
  rw [bigSep3] at h; rw [free_squeeze, free_squeeze, free_squeeze]; exact h

omit [∀ e, Nonempty (Elt F e)] in
theorem w8_split : free (F := F) c w8M ⊢ iprop(free c (w8r 0) ∗ free c (w8r 1) ∗ free c (w8r 2) ∗ free c (w8r 3)
    ∗ free c (w8r 4) ∗ free c (w8r 5) ∗ free c (w8r 6) ∗ free c (w8r 7)) := by
  have h := free_rects (F := F) c w8M rW rW_stride rW_disj rW_cov
  rw [bigSep8] at h; exact h
/-- The eight cast row blocks are the cast weights. -/
theorem w8_join : iprop(own c (w8r 0) fullShare (wRow m c 0) ∗ own c (w8r 1) fullShare (wRow m c 1) ∗ own c (w8r 2) fullShare (wRow m c 2)
    ∗ own c (w8r 3) fullShare (wRow m c 3) ∗ own c (w8r 4) fullShare (wRow m c 4) ∗ own c (w8r 5) fullShare (wRow m c 5)
    ∗ own c (w8r 6) fullShare (wRow m c 6) ∗ own c (w8r 7) fullShare (wRow m c 7)) ⊢ own c w8M fullShare (W8 m c) := by
  have h := owns_of_rects (Val := Elt F) (Ix := Unit) (Name := ℕ) (U := UU) (Lvl := ℕ) (c : Thread nD τ) w8M fullShare rW rW_stride rW_disj rW_cov (W8 m c)
  rw [bigSep8] at h; exact h

omit [∀ e, Nonempty (Elt F e)] in
theorem o_split : free (F := F) c oM ⊢ iprop(free c (oTile c 0) ∗ free c (oTile c 1) ∗ free c (oTile c 2) ∗ free c (oTile c 3)
    ∗ free c (oTile c 4) ∗ free c (oTile c 5) ∗ free c (oTile c 6) ∗ free c (oTile c 7)) := by
  have h := free_rects (F := F) c oM (rO c) (rO_stride c) (rO_disj c) (rO_cov c)
  rw [bigSep8] at h; exact h
/-- The eight tiles are the result. -/
theorem o_join : iprop(own c (oTile c 0) fullShare (outT m c 0) ∗ own c (oTile c 1) fullShare (outT m c 1) ∗ own c (oTile c 2) fullShare (outT m c 2)
    ∗ own c (oTile c 3) fullShare (outT m c 3) ∗ own c (oTile c 4) fullShare (outT m c 4) ∗ own c (oTile c 5) fullShare (outT m c 5)
    ∗ own c (oTile c 6) fullShare (outT m c 6) ∗ own c (oTile c 7) fullShare (outT m c 7)) ⊢ own c oM fullShare (outAll m c) := by
  have h := owns_of_rects (Val := Elt F) (Ix := Unit) (Name := ℕ) (U := UU) (Lvl := ℕ) (c : Thread nD τ) oM fullShare (rO c) (rO_stride c) (rO_disj c) (rO_cov c) (outAll m c)
  rw [bigSep8] at h
  obtain ⟨h0, h1, h2, h3, h4, h5, h6, h7⟩ := outAll_tiles m c
  rw [← funext h0, ← funext h1, ← funext h2, ← funext h3, ← funext h4, ← funext h5, ← funext h6, ← funext h7]
  exact h

end Cert.RingProof

end
-- ==== Proof.Body.lean ====
/-
# Body: the whole run of one device

The seventeen parts of the kernel one after the other, from the buffers and rights a device starts with to its result.
-/
module

public import proofs.«01_k».proof.Proof.Parts2
public import proofs.«01_k».proof.Proof.Parts3
public import proofs.«01_k».proof.Proof.Parts4
public import proofs.«01_k».proof.Proof.Split

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- What device `c` starts with: its buffers, its semaphores and its part in the protocol. -/
abbrev bodyPre : sProp 𝕄 :=
  iprop(ow c 0
    ∗ own c xM fullShare (xstg m c)
    ∗ own c sxM fullShare (sxstg m c)
    ∗ own c swM fullShare (swstg m c)
    ∗ wAt m c fullShare
    ∗ free c oM
    ∗ free c x8M
    ∗ free c wsM
    ∗ free c w8M
    ∗ free c osM
    ∗ free c cwM
    ∗ free c ccM
    ∗ (cred (tallyAt (bC c) () 2) ∗ atPos ER (bC c) 0 ∅ 0)
    ∗ atPos ER (dC c (q 7)) 0 ∅ 0
    ∗ atPos ER (dC c (q 8)) 0 ∅ 0
    ∗ atPos ER (dC c (q 9)) 0 ∅ 0
    ∗ (cred (tallyAt (dC c (q 10)) () N) ∗ atPos ER (dC c (q 10)) 0 ∅ 0)
    ∗ (cred (tallyAt (dC c (q 11)) () N) ∗ atPos ER (dC c (q 11)) 0 ∅ 0)
    ∗ (cred (tallyAt (dC c (q 12)) () N) ∗ atPos ER (dC c (q 12)) 0 ∅ 0)
    ∗ atPos ER (dC c (q 13)) 0 ∅ 0
    ∗ atPos ER (dC c (q 14)) 0 ∅ 0
    ∗ atPos ER (dC c (q 15)) 0 ∅ 0
    ∗ (cred (tallyAt (dC c (q 16)) () N) ∗ atPos ER (dC c (q 16)) 0 ∅ 0)
    ∗ (cred (tallyAt (dC c (q 17)) () N) ∗ atPos ER (dC c (q 17)) 0 ∅ 0)
    ∗ (cred (tallyAt (dC c (q 18)) () N) ∗ atPos ER (dC c (q 18)) 0 ∅ 0)
    ∗ dutyTok ER (bC (prv c)) 0 false
    ∗ dutyTok ER (bC (nxt c)) 0 true
    ∗ dutyTok ER (dC c (q 7)) 0 false
    ∗ dutyTok ER (dC c (q 8)) 0 false
    ∗ dutyTok ER (dC c (q 9)) 0 false
    ∗ dutyTok ER (dC (nxt c) (q 10)) 0 false
    ∗ dutyTok ER (dC (nxt c) (q 11)) 0 false
    ∗ dutyTok ER (dC (nxt c) (q 12)) 0 false
    ∗ dutyTok ER (dC c (q 13)) 0 false
    ∗ dutyTok ER (dC c (q 14)) 0 false
    ∗ dutyTok ER (dC c (q 15)) 0 false
    ∗ dutyTok ER (dC (prv c) (q 16)) 0 false
    ∗ dutyTok ER (dC (prv c) (q 17)) 0 false
    ∗ dutyTok ER (dC (prv c) (q 18)) 0 false
    ∗ semVal (dC c (q 3)) 0
    ∗ semVal (dC c (q 4)) 0
    ∗ semVal (dC c (q 5)) 0
    ∗ semVal (dC c (q 6)) 0)

/-- What it ends with: the result in place, every buffer and semaphore back, nothing owed. -/
abbrev bodyPost : sProp 𝕄 :=
  iprop(ow c 8
    ∗ own c xM fullShare (xstg m c)
    ∗ own c sxM fullShare (sxstg m c)
    ∗ own c swM fullShare (swstg m c)
    ∗ wAt m c fullShare
    ∗ own c oM fullShare (outAll m c)
    ∗ free c x8M
    ∗ free c wsM
    ∗ free c w8M
    ∗ free c osM
    ∗ free c cwM
    ∗ free c ccM
    ∗ semVal (bC c) 0
    ∗ semVal (dC c (q 3)) 0
    ∗ semVal (dC c (q 4)) 0
    ∗ semVal (dC c (q 5)) 0
    ∗ semVal (dC c (q 6)) 0
    ∗ semVal (dC c (q 7)) 0
    ∗ semVal (dC c (q 8)) 0
    ∗ semVal (dC c (q 9)) 0
    ∗ semVal (dC c (q 10)) 0
    ∗ semVal (dC c (q 11)) 0
    ∗ semVal (dC c (q 12)) 0
    ∗ semVal (dC c (q 13)) 0
    ∗ semVal (dC c (q 14)) 0
    ∗ semVal (dC c (q 15)) 0
    ∗ semVal (dC c (q 16)) 0
    ∗ semVal (dC c (q 17)) 0
    ∗ semVal (dC c (q 18)) 0)

omit [FloatOps F] in
/-- The weights in two halves, for the two staging slots. -/
theorem w_split : wAt m c fullShare ⊢ iprop(wAt m c fullShare.left ∗ wAt m c fullShare.right) :=
  (pointsTo_share (PosShare.mem_left_op_right fullShare)).1
omit [FloatOps F] in
theorem w_join : iprop(wAt m c fullShare.left ∗ wAt m c fullShare.right) ⊢ wAt m c fullShare :=
  (pointsTo_share (PosShare.mem_left_op_right fullShare)).2

variable [∀ e, Nonempty (Elt F e)]

/-- The kernel's body on device `c`. -/
theorem body_run : iprop(env m K ∗ bodyPre m c) ⊢ wpc c (cc0_body (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11) (fun _ => bodyPost m c) := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold bodyPre bodyPost
  iintro ⟨#He, h1, h2, h3, h4, h5, h6, h7, h8, h9, h10, h11, h12, ⟨h13, h14⟩, h15, h16, h17, ⟨h18, h19⟩, ⟨h20, h21⟩, ⟨h22, h23⟩, h24, h25, h26, ⟨h27, h28⟩, ⟨h29, h30⟩, ⟨h31, h32⟩, h33, h34, h35, h36, h37, h38, h39, h40, h41, h42, h43, h44, h45, h46, h47, h48, h49, h50⟩
  ihave hx := (w_split m c) $$ h5
  icases hx with ⟨h51, h52⟩
  ihave hx := (ws_split c) $$ h8
  icases hx with ⟨h53, h54⟩
  ihave hx := (os_split c) $$ h10
  icases hx with ⟨h55, h56⟩
  ihave hx := (cw_split c) $$ h11
  icases hx with ⟨h57, h58, h59⟩
  ihave hx := (ccw_split c) $$ h12
  icases hx with ⟨h60, h61, h62⟩
  ihave hx := (w8_split c) $$ h9
  icases hx with ⟨h63, h64, h65, h66, h67, h68, h69, h70⟩
  ihave hx := (o_split c) $$ h6
  icases hx with ⟨h71, h72, h73, h74, h75, h76, h77, h78⟩
  iapply (seq c (part1 m K c)) $$ [h1 h51 h53 h47 h33 h57 h58 h59 h34 h60 h61 h62 h13 h14 h2 h7]
  · isplitr
    · iexact He
    isplitl [h1]
    · iexact h1
    isplitl [h51]
    · iexact h51
    isplitl [h53]
    · iexact h53
    isplitl [h47]
    · iexact h47
    isplitl [h33 h57 h58 h59]
    · isplitl [h33]
      · iexact h33
      isplitl [h57]
      · iexact h57
      isplitl [h58]
      · iexact h58
      iexact h59
    isplitl [h34 h60 h61 h62]
    · isplitl [h34]
      · iexact h34
      isplitl [h60]
      · iexact h60
      isplitl [h61]
      · iexact h61
      iexact h62
    isplitl [h13 h14]
    · isplitl [h13]
      · iexact h13
      iexact h14
    isplitl [h2]
    · iexact h2
    iexact h7
  iintro %r ⟨%hr, h79, h80, h81, h82, h83, h84, h85⟩
  obtain ⟨d0, v2, v5, v7, w⟩ := r
  obtain rfl : c = d0 := Eq.symm hr
  ihave hx := (show barPay (F := F) c false ⊢ iprop(free (nxt c) cw0 ∗ free (nxt c) cw1 ∗ free (nxt c) cw2) from .rfl) $$ h81
  icases hx with ⟨h86, h87, h88⟩
  ihave hx := (show barPay (F := F) c true ⊢ iprop(free (prv c) ccw0 ∗ free (prv c) ccw1 ∗ free (prv c) ccw2) from .rfl) $$ h82
  icases hx with ⟨h89, h90, h91⟩
  ihave hx := (x8_split m c) $$ h85
  icases hx with ⟨h92, h93⟩
  ihave hx := (own_split c x8T _) $$ h92
  icases hx with ⟨h94, h95⟩
  ihave hx := (own_split c x8B _) $$ h93
  icases hx with ⟨h96, h97⟩
  iapply (seq c (part2 m K c v5 v7 w)) $$ [h79 h94 h86 h35 h38 h96 h89 h41 h44 h52 h54 h48 h80]
  · isplitr
    · iexact He
    isplitl [h79]
    · iexact h79
    isplitl [h94 h86 h35 h38]
    · isplitl [h94]
      · iexact h94
      isplitl [h86]
      · iexact h86
      isplitl [h35]
      · iexact h35
      iexact h38
    isplitl [h96 h89 h41 h44]
    · isplitl [h96]
      · iexact h96
      isplitl [h89]
      · iexact h89
      isplitl [h41]
      · iexact h41
      iexact h44
    isplitl [h52]
    · iexact h52
    isplitl [h54]
    · iexact h54
    isplitl [h48]
    · iexact h48
    iexact h80
  iintro %r ⟨%hr, h98, h99, h100, h101, h102, h103, h104⟩
  iapply (seq c (part3 m K c r hr)) $$ [h98 h63 h64 h102 h103 h104 h101]
  · isplitr
    · iexact He
    isplitl [h98]
    · iexact h98
    isplitl [h63]
    · iexact h63
    isplitl [h64]
    · iexact h64
    isplitl [h102]
    · iexact h102
    isplitl [h103]
    · iexact h103
    isplitl [h104]
    · iexact h104
    iexact h101
  iintro %r ⟨h105, h106, h107, h108, h109⟩
  iapply (seq c (part4 m K c)) $$ [h105 h65 h66 h108 h109]
  · isplitr
    · iexact He
    isplitl [h105]
    · iexact h105
    isplitl [h65]
    · iexact h65
    isplitl [h66]
    · iexact h66
    isplitl [h108]
    · iexact h108
    iexact h109
  iintro %r ⟨h110, h111, h112, h113, h114, h115, h116⟩
  iapply (seq c (part5 m K c)) $$ [h110 h67 h68 h113 h114 h115 h116]
  · isplitr
    · iexact He
    isplitl [h110]
    · iexact h110
    isplitl [h67]
    · iexact h67
    isplitl [h68]
    · iexact h68
    isplitl [h113]
    · iexact h113
    isplitl [h114]
    · iexact h114
    isplitl [h115]
    · iexact h115
    iexact h116
  iintro %r ⟨h117, h118, h119, h120, h121, h122, h123⟩
  iapply (seq c (part6 m K c)) $$ [h117 h69 h70 h120 h121 h122 h123 h3 h4]
  · isplitr
    · iexact He
    isplitl [h117]
    · iexact h117
    isplitl [h69]
    · iexact h69
    isplitl [h70]
    · iexact h70
    isplitl [h120]
    · iexact h120
    isplitl [h121]
    · iexact h121
    isplitl [h122]
    · iexact h122
    isplitl [h123]
    · iexact h123
    isplitl [h3]
    · iexact h3
    iexact h4
  iintro %r ⟨%hr, h124, h125, h126, h127, h128, h129, h130, h131, h132, h133, h134⟩
  subst hr
  ihave hx := (w8_join m c) $$ [h106 h107 h111 h112 h118 h119 h125 h126]
  · isplitl [h106]
    · iexact h106
    isplitl [h107]
    · iexact h107
    isplitl [h111]
    · iexact h111
    isplitl [h112]
    · iexact h112
    isplitl [h118]
    · iexact h118
    isplitl [h119]
    · iexact h119
    isplitl [h125]
    · iexact h125
    iexact h126
  irename hx => h135
  iapply (seq c (part7 m K c v2)) $$ [h95 h97 h135 h55 h56 h71 h49]
  · isplitr
    · iexact He
    isplitl [h95]
    · iexact h95
    isplitl [h97]
    · iexact h97
    isplitl [h135]
    · iexact h135
    isplitl [h55]
    · iexact h55
    isplitl [h56]
    · iexact h56
    isplitl [h71]
    · iexact h71
    iexact h49
  iintro %r ⟨h136, h137, h138, h139, h140⟩
  iapply (seq c (part8 m K c v5 v7)) $$ [h124 h140 h72 h50 h99 h15 h18 h19 h100 h24]
  · isplitr
    · iexact He
    isplitl [h124]
    · iexact h124
    isplitl [h140]
    · iexact h140
    isplitl [h72]
    · iexact h72
    isplitl [h50]
    · iexact h50
    isplitl [h99 h15]
    · isplitl [h99]
      · iexact h99
      iexact h15
    isplitl [h18 h19]
    · isplitl [h18]
      · iexact h18
      iexact h19
    isplitl [h100]
    · iexact h100
    iexact h24
  iintro %r ⟨h141, h142, h143, h144, h145, h146, h147, h148⟩
  iapply (seq c (part9 m K c v2 v5 v7)) $$ [h141 h27 h28 h145 h87 h36 h39 h90 h42 h45]
  · isplitr
    · iexact He
    isplitl [h141]
    · iexact h141
    isplitl [h27 h28]
    · isplitl [h27]
      · iexact h27
      iexact h28
    isplitl [h145 h87 h36 h39]
    · isplitl [h145]
      · iexact h145
      isplitl [h87]
      · iexact h87
      isplitl [h36]
      · iexact h36
      iexact h39
    isplitl [h90]
    · iexact h90
    isplitl [h42]
    · iexact h42
    iexact h45
  iintro %r ⟨h149, h150, h151, h152, h153, h154⟩
  obtain ⟨v248, v249⟩ := r
  iapply (seq c (part10 m K c v248 v249)) $$ [h149 h151 h152 h139 h138 h73]
  · isplitr
    · iexact He
    isplitl [h149]
    · iexact h149
    isplitl [h151]
    · iexact h151
    isplitl [h152]
    · iexact h152
    isplitl [h139]
    · iexact h139
    isplitl [h138]
    · iexact h138
    iexact h73
  iintro %r ⟨%hr, h155, h156, h157, h158, h159, h160⟩
  iapply (seq c (part11 m K c v7 r hr)) $$ [h155 h142 h159 h74 h153 h16]
  · isplitr
    · iexact He
    isplitl [h155]
    · iexact h155
    isplitl [h142]
    · iexact h142
    isplitl [h159]
    · iexact h159
    isplitl [h74]
    · iexact h74
    isplitl [h153]
    · iexact h153
    iexact h16
  iintro %r ⟨h161, h162, h163, h164, h165, h166⟩
  iapply (seq c (part12 m K c v5 v7)) $$ [h161 h20 h21 h154 h25 h29 h30]
  · isplitr
    · iexact He
    isplitl [h161]
    · iexact h161
    isplitl [h20 h21]
    · isplitl [h20]
      · iexact h20
      iexact h21
    isplitl [h154 h25]
    · isplitl [h154]
      · iexact h154
      iexact h25
    isplitl [h29]
    · iexact h29
    iexact h30
  iintro %r ⟨h167, h168, h169, h170, h171, h172, h173⟩
  iapply (seq c (part13 m K c v2 v5)) $$ [h167 h168 h88 h37 h40 h172 h91 h43 h46 h160 h163]
  · isplitr
    · iexact He
    isplitl [h167]
    · iexact h167
    isplitl [h168 h88 h37 h40]
    · isplitl [h168]
      · iexact h168
      isplitl [h88]
      · iexact h88
      isplitl [h37]
      · iexact h37
      iexact h40
    isplitl [h172 h91 h43 h46]
    · isplitl [h172]
      · iexact h172
      isplitl [h91]
      · iexact h91
      isplitl [h43]
      · iexact h43
      iexact h46
    isplitl [h160]
    · iexact h160
    iexact h163
  iintro %r ⟨%hr, h174, h175, h176, h177, h178, h179, h180, h181, h182⟩
  obtain ⟨v348, v350, v357, cst⟩ := r
  obtain ⟨hv, rfl, rfl⟩ : v350 = tX m c 4 ∧ W8 m c = v357 ∧ constant S512x2048 .f32 0x00000000#32 = cst := ⟨hr.1, hr.2.1.symm, hr.2.2.symm⟩
  iapply (seq c (part14 m K c v348 v350 hv)) $$ [h174 h180 h75 h181 h176 h164 h182]
  · isplitr
    · iexact He
    isplitl [h174]
    · iexact h174
    isplitl [h180]
    · iexact h180
    isplitl [h75]
    · iexact h75
    isplitl [h181]
    · iexact h181
    isplitl [h176]
    · iexact h176
    isplitl [h164]
    · iexact h164
    iexact h182
  iintro %r ⟨%hr, h183, h184, h185, h186, h187, h188, h189⟩
  iapply (seq c (part15 m K c v7 r hr)) $$ [h183 h187 h76 h188 h177 h17 h22 h23]
  · isplitr
    · iexact He
    isplitl [h183]
    · iexact h183
    isplitl [h187]
    · iexact h187
    isplitl [h76]
    · iexact h76
    isplitl [h188]
    · iexact h188
    isplitl [h177 h17]
    · isplitl [h177]
      · iexact h177
      iexact h17
    isplitl [h22]
    · iexact h22
    iexact h23
  iintro %r ⟨h190, h191, h192, h193, h194, h195⟩
  iapply (seq c (part16 m K c v2 v5)) $$ [h190 h178 h26 h31 h32 h194 h184 h189]
  · isplitr
    · iexact He
    isplitl [h190]
    · iexact h190
    isplitl [h178 h26]
    · isplitl [h178]
      · iexact h178
      iexact h26
    isplitl [h31 h32]
    · isplitl [h31]
      · iexact h31
      iexact h32
    isplitl [h194]
    · iexact h194
    isplitl [h184]
    · iexact h184
    iexact h189
  iintro %r ⟨%hr, h196, h197, h198, h199, h200, h201, h202, h203, h204, h205⟩
  obtain ⟨v426, v440⟩ := r
  iapply (seq c (part17 m K c v426 v440 hr)) $$ [h196 h203 h77 h204 h199 h191 h205]
  · isplitr
    · iexact He
    isplitl [h196]
    · iexact h196
    isplitl [h203]
    · iexact h203
    isplitl [h77]
    · iexact h77
    isplitl [h204]
    · iexact h204
    isplitl [h199]
    · iexact h199
    isplitl [h191]
    · iexact h191
    iexact h205
  iintro %r ⟨h206, h207, h208, h209, h210, h211, h212⟩
  simp only [Prog.lift, Prog.bind_op, Prog.bind_ret, Prog.pure_eq_ret, os0_eq, os1_eq]
  iapply (copy_own c (by decide)) $$ [h210 h78 h211]
  · isplitl [h210]
    · iexact h210
    isplitl [h78]
    · iexact h78
    iexact h211
  iintro hf7
  iapply (wait_local m K c 8 rfl rfl) $$ [h206 h207]
  · isplitr; · iexact He
    isplitl [h206]; · iexact h206
    iexact h207
  iintro ⟨h213, ⟨h214, h215⟩, h216⟩
  ihave hx := (free_of_own c oS0 _) $$ h215
  irename hx => h217
  iapply (wait_local m K c 8 rfl rfl) $$ [h213 hf7]
  · isplitr; · iexact He
    isplitl [h213]; · iexact h213
    iexact hf7
  iintro ⟨h218, ⟨h219, h220⟩, h221⟩
  ihave hx := (free_of_own c oS1 _) $$ h220
  irename hx => h222
  ihave hx := (o_join m c) $$ [h158 h162 h179 h186 h202 h209 h214 h219]
  · isplitl [h158]
    · iexact h158
    isplitl [h162]
    · iexact h162
    isplitl [h179]
    · iexact h179
    isplitl [h186]
    · iexact h186
    isplitl [h202]
    · iexact h202
    isplitl [h209]
    · iexact h209
    isplitl [h214]
    · iexact h214
    iexact h219
  irename hx => h223
  ihave hx := (own_join c x8T _ _) $$ [h143 h136]
  · isplitl [h143]
    · iexact h143
    iexact h136
  irename hx => h224
  ihave hx := (free_of_own c x8T _) $$ h224
  irename hx => h225
  ihave hx := (own_join c x8B _ _) $$ [h147 h137]
  · isplitl [h147]
    · iexact h147
    iexact h137
  irename hx => h226
  ihave hx := (free_of_own c x8B _) $$ h226
  irename hx => h227
  ihave hx := (own_join c cw0 _ _) $$ [h165 h156]
  · isplitl [h165]
    · iexact h165
    iexact h156
  irename hx => h228
  ihave hx := (free_of_own c cw0 _) $$ h228
  irename hx => h229
  ihave hx := (own_join c cw1 _ _) $$ [h192 h175]
  · isplitl [h192]
    · iexact h192
    iexact h175
  irename hx => h230
  ihave hx := (free_of_own c cw1 _) $$ h230
  irename hx => h231
  ihave hx := (own_join c ccw0 _ _) $$ [h170 h157]
  · isplitl [h170]
    · iexact h170
    iexact h157
  irename hx => h232
  ihave hx := (free_of_own c ccw0 _) $$ h232
  irename hx => h233
  ihave hx := (own_join c ccw1 _ _) $$ [h197 h185]
  · isplitl [h197]
    · iexact h197
    iexact h185
  irename hx => h234
  ihave hx := (free_of_own c ccw1 _) $$ h234
  irename hx => h235
  ihave hx := (free_of_own c cw2 _) $$ h201
  irename hx => h236
  ihave hx := (free_of_own c ccw2 _) $$ h208
  irename hx => h237
  ihave hx := (x8_join c) $$ [h225 h227]
  · isplitl [h225]
    · iexact h225
    iexact h227
  irename hx => h238
  ihave hx := (ws_join c) $$ [h127 h130]
  · isplitl [h127]
    · iexact h127
    iexact h130
  irename hx => h239
  ihave hx := (os_join c) $$ [h217 h222]
  · isplitl [h217]
    · iexact h217
    iexact h222
  irename hx => h240
  ihave hx := (cw_join c) $$ [h229 h231 h236]
  · isplitl [h229]
    · iexact h229
    isplitl [h231]
    · iexact h231
    iexact h236
  irename hx => h241
  ihave hx := (ccw_join c) $$ [h233 h235 h237]
  · isplitl [h233]
    · iexact h233
    isplitl [h235]
    · iexact h235
    iexact h237
  irename hx => h242
  ihave hx := (free_of_own c w8M _) $$ h212
  irename hx => h243
  ihave hx := (w_join m c) $$ [h128 h131]
  · isplitl [h128]
    · iexact h128
    iexact h131
  irename hx => h244
  simp only [wp_ret]
  imodintro
  isplitl [h218]
  · iexact h218
  isplitl [h84]
  · iexact h84
  isplitl [h133]
  · iexact h133
  isplitl [h134]
  · iexact h134
  isplitl [h244]
  · iexact h244
  isplitl [h223]
  · iexact h223
  isplitl [h238]
  · iexact h238
  isplitl [h239]
  · iexact h239
  isplitl [h243]
  · iexact h243
  isplitl [h240]
  · iexact h240
  isplitl [h241]
  · iexact h241
  isplitl [h242]
  · iexact h242
  isplitl [h83]
  · iexact h83
  isplitl [h129]
  · iexact h129
  isplitl [h132]
  · iexact h132
  isplitl [h216]
  · iexact h216
  isplitl [h221]
  · iexact h221
  isplitl [h144]
  · iexact h144
  isplitl [h166]
  · iexact h166
  isplitl [h193]
  · iexact h193
  isplitl [h146]
  · iexact h146
  isplitl [h169]
  · iexact h169
  isplitl [h195]
  · iexact h195
  isplitl [h148]
  · iexact h148
  isplitl [h171]
  · iexact h171
  isplitl [h198]
  · iexact h198
  isplitl [h150]
  · iexact h150
  isplitl [h173]
  · iexact h173
  iexact h200

end Cert.RingProof

end
-- ==== Proof.Launch.lean ====
/-
# Launch: the kernel's whole run

The cells and tokens dealt to the four devices at launch, the pipeline around the body, and the run of the program: on every
device the result is in place, the arguments are unchanged and every semaphore is back at zero.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

set_option maxRecDepth 65536

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (c : Dev nD)

/-! ## The semaphores and tokens by number -/

/-- The kernel's own semaphores: the staging and output ones, and the twelve copies'. -/
abbrev osem : Fin 16 → SemLoc sig := fun k => .dma ⟨3 + k.val, show 3 + k.val < 19 by omega⟩

theorem ownSemFacts : Pipeline.OwnSemFacts cfg0.spec osem := by decide

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : ksem k = ksem k' := congrArg Prod.snd h
  have h3 : ∀ k k' : Fin 13, ksem k = ksem k' → k = k' := by decide
  rw [h3 k k' h2]
def ringCells : Finset (GSem nD τ sig) := Finset.univ.map ⟨kcell, kcell_injective⟩

/-- A device's duties: the barrier's two, and one of each copy semaphore. -/
abbrev tokSem : Fin 14 → SemLoc sig × Bool
  | ⟨0, _⟩ => (.reg barS, false)
  | ⟨1, _⟩ => (.reg barS, true)
  | ⟨k + 2, h⟩ => (.dma ⟨7 + k, show 7 + k < 19 by omega⟩, false)
abbrev tokOf (cj : Dev nD × Fin 14) : GSem nD τ sig × ℕ × Bool := (((cj.1 : Thread nD τ), (tokSem cj.2).1), 0, (tokSem cj.2).2)
theorem tokOf_injective : Function.Injective tokOf := by
  rintro ⟨c, j⟩ ⟨c', j'⟩ h
  have h1 : c = c' := congrArg (fun x : GSem nD τ sig × ℕ × Bool => x.1.1.1) h
  subst h1
  have h2 : tokSem j = tokSem j' := congrArg (fun x : GSem nD τ sig × ℕ × Bool => (x.1.2, x.2.2)) h
  have h3 : ∀ j j' : Fin 14, tokSem j = tokSem j' → j = j' := by decide
  rw [h3 j j' h2]
def ringToks : Finset (GSem nD τ sig × ℕ × Bool) := Finset.univ.map ⟨tokOf, tokOf_injective⟩

/-- Whose duty of number `j` device `c` pays. -/
abbrev payee : Fin 14 → (Dev nD ≃ Dev nD)
  | 0 => rot.symm | 1 => rot | 2 => .refl _ | 3 => .refl _ | 4 => .refl _ | 5 => rot | 6 => rot | 7 => rot
  | 8 => .refl _ | 9 => .refl _ | 10 => .refl _ | 11 => rot.symm | 12 => rot.symm | 13 => rot.symm

/-- Payer and number of a duty, to the duty's device and number. -/
def payer : Dev nD × Fin 14 ≃ Dev nD × Fin 14 where
  toFun cj := (payee cj.2 cj.1, cj.2)
  invFun cj := ((payee cj.2).symm cj.1, cj.2)
  left_inv cj := by simp
  right_inv cj := by simp

/-- The launch's ghost element: the pipeline's cells and the ring's. -/
def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (Ix := Unit) (Val := Elt F) (Name := ℕ) (U := UU) (Lvl := ℕ)).toEmb.op_of_mem (Prod.mk_mem_op (URA.mem_op_one a) (URA.mem_one_op (b, (1 : Counters)))))

/-! ## What each device is dealt -/

abbrev tokAt (cj : Dev nD × Fin 14) : sProp 𝕄 := dutyTok ER (tokOf cj).1 (tokOf cj).2.1 (tokOf cj).2.2
/-- The duty tokens of device `c`'s own cells, -/
def toks : sProp 𝕄 := bigSep Finset.univ fun j : Fin 14 => tokAt (c, j)
/-- and those of the duties it pays. -/
def payToks : sProp 𝕄 := bigSep Finset.univ fun j : Fin 14 => tokAt (payee j c, j)

/-- The launch element's share of device `c`. -/
def G : sProp 𝕄 :=
  iprop((bigSep Finset.univ fun k : Fin 13 => roundState ER (sched m) (kcell (c, k)) 0)
    ∗ (bigSep Finset.univ fun k : Fin 13 => iprop(atPos ER (kcell (c, k)) 0 ∅ 0 ∗ reached ER (kcell (c, k)) 0)) ∗ toks c)

/-- What every device knows, but for the levels. -/
def records (K : Dev nD × Fin 13 → ℕ) : sProp 𝕄 :=
  iprop((bigSep Finset.univ fun ck : Dev nD × Fin 13 => cellInv ER (sched m) (K ck) (kcell ck))
    ∗ (bigSep Finset.univ fun ck : Dev nD × Fin 13 => reached ER (kcell ck) 0))
instance records_persistent (K : Dev nD × Fin 13 → ℕ) : BI.Persistent (records m K) := by unfold records; infer_instance

/-- The semaphores that no other device touches. -/
def localSems : sProp 𝕄 :=
  iprop(semVal (dC c (q 3)) 0 ∗ semVal (dC c (q 4)) 0 ∗ semVal (dC c (q 5)) 0 ∗ semVal (dC c (q 6)) 0)
/-- What device `c` alone holds: its positions, its tokens, its local semaphores. -/
def linear : sProp 𝕄 :=
  iprop((bigSep Finset.univ fun k : Fin 13 => atPos ER (kcell (c, k)) 0 ∅ 0) ∗ payToks c ∗ localSems c)
/-- What device `c` starts from once the cells are allocated. -/
def G' : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq : (Pipeline.ownSems0 (Ix := Unit) (Name := ℕ) (U := UU) (Lvl := ℕ) (Val := Elt F) (τ := τ) osem c : sProp 𝕄)
    = iprop(semVal (dC c (q 3)) 0
    ∗ semVal (dC c (q 4)) 0
    ∗ semVal (dC c (q 5)) 0
    ∗ semVal (dC c (q 6)) 0
    ∗ semVal (dC c (q 7)) 0
    ∗ semVal (dC c (q 8)) 0
    ∗ semVal (dC c (q 9)) 0
    ∗ semVal (dC c (q 10)) 0
    ∗ semVal (dC c (q 11)) 0
    ∗ semVal (dC c (q 12)) 0
    ∗ semVal (dC c (q 13)) 0
    ∗ semVal (dC c (q 14)) 0
    ∗ semVal (dC c (q 15)) 0
    ∗ semVal (dC c (q 16)) 0
    ∗ semVal (dC c (q 17)) 0
    ∗ semVal (dC c (q 18)) 0) := by
  rw [Pipeline.ownSems0_eq_of_list c osem [0, 1, 2, 3, 4, 5, 6, 7, 8, 9, 10, 11, 12, 13, 14, 15] (by decide) (by decide)]; rfl
omit [FloatOps F] in
theorem unscopedSems0_eq : (unscopedSems0 c : sProp 𝕄) = semVal (bC c) 0 := by
  unfold unscopedSems0; rw [bigSep_eq_bigSepL_of_eq [SemLoc.reg barS] (by decide) (by decide)]; rfl

omit [FloatOps F] in
theorem kcells_eq (Φ : GSem nD τ sig → sProp 𝕄) : (bigSep Finset.univ fun k : Fin 13 => Φ (kcell (c, k)))
    = iprop(Φ (bC c) ∗ Φ (dC c (q 7)) ∗ Φ (dC c (q 8)) ∗ Φ (dC c (q 9)) ∗ Φ (dC c (q 10)) ∗ Φ (dC c (q 11)) ∗ Φ (dC c (q 12)) ∗ Φ (dC c (q 13)) ∗ Φ (dC c (q 14)) ∗ Φ (dC c (q 15)) ∗ Φ (dC c (q 16)) ∗ Φ (dC c (q 17)) ∗ Φ (dC c (q 18))) := by
  rw [bigSep_univ_eq_bigSepL [0, 1, 2, 3, 4, 5, 6, 7, 8, 9, 10, 11, 12] (by decide) (by decide)]; rfl

omit [FloatOps F] in
theorem payToks_eq : (payToks c : sProp 𝕄) = iprop(dutyTok ER (bC (prv c)) 0 false
    ∗ dutyTok ER (bC (nxt c)) 0 true
    ∗ dutyTok ER (dC c (q 7)) 0 false
    ∗ dutyTok ER (dC c (q 8)) 0 false
    ∗ dutyTok ER (dC c (q 9)) 0 false
    ∗ dutyTok ER (dC (nxt c) (q 10)) 0 false
    ∗ dutyTok ER (dC (nxt c) (q 11)) 0 false
    ∗ dutyTok ER (dC (nxt c) (q 12)) 0 false
    ∗ dutyTok ER (dC c (q 13)) 0 false
    ∗ dutyTok ER (dC c (q 14)) 0 false
    ∗ dutyTok ER (dC c (q 15)) 0 false
    ∗ dutyTok ER (dC (prv c) (q 16)) 0 false
    ∗ dutyTok ER (dC (prv c) (q 17)) 0 false
    ∗ dutyTok ER (dC (prv c) (q 18)) 0 false) := by
  unfold payToks; rw [bigSep_univ_eq_bigSepL [0, 1, 2, 3, 4, 5, 6, 7, 8, 9, 10, 11, 12, 13] (by decide) (by decide)]; rfl

omit [FloatOps F] in
/-- The semaphores at zero: one for each cell, and the local ones. -/
theorem sems_split : iprop(Pipeline.ownSems0 (Ix := Unit) (Name := ℕ) (U := UU) (Lvl := ℕ) (Val := Elt F) (τ := τ) osem c ∗ unscopedSems0 c)
    ⊢ iprop((bigSep Finset.univ fun k : Fin 13 => semVal (kcell (c, k)) 0) ∗ (localSems c : sProp 𝕄)) := by
  rw [ownSems0_eq, unscopedSems0_eq, kcells_eq c fun g => (semVal g 0 : sProp 𝕄)]
  unfold localSems
  iintro ⟨⟨s3, s4, s5, s6, s7, s8, s9, s10, s11, s12, s13, s14, s15, s16, s17, s18⟩, hb⟩
  isplitr [s3 s4 s5 s6]
  · isplitl [hb]; · iexact hb
    isplitl [s7]; · iexact s7
    isplitl [s8]; · iexact s8
    isplitl [s9]; · iexact s9
    isplitl [s10]; · iexact s10
    isplitl [s11]; · iexact s11
    isplitl [s12]; · iexact s12
    isplitl [s13]; · iexact s13
    isplitl [s14]; · iexact s14
    isplitl [s15]; · iexact s15
    isplitl [s16]; · iexact s16
    isplitl [s17]; · iexact s17
    iexact s18
  isplitl [s3]; · iexact s3
  isplitl [s4]; · iexact s4
  isplitl [s5] <;> iassumption

/-- One device's cells set up. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems_split (F := F) c) $$ [Hos Hus]
  · isplitl [Hos] <;> iassumption
  icases Hv with ⟨Hv, Hl⟩
  imod (show iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- The tokens go to the devices that pay with them. -/
theorem toks_around : (bigSep Finset.univ fun c : Dev nD => (toks c : sProp 𝕄)) ⊢ bigSep Finset.univ fun c : Dev nD => payToks c := by
  have h := bigSep_univ_equiv payer fun cj : Dev nD × Fin 14 => (tokAt cj : sProp 𝕄)
  rw [bigSep_univ_prod, bigSep_univ_prod] at h
  exact Entails.of_eq h

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 13 => iprop(∃ κ : ℕ, cellInv ER (sched m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hl⟩
  ihave HK := (BI.bigSep_exists_pi Finset.univ (fun (ck : Dev nD × Fin 13) (κ : ℕ) => (cellInv ER (sched m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G'; iintro H; iexists K; iexact H)
  isplitr
  · unfold records; isplitl; · iexact HI
    iexact HR
  · unfold linear; rw [bigSep_sep', bigSep_sep']
    isplitl [Hat]; · iexact Hat
    isplitl [Htk] <;> iassumption

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit device `c` waits with at its barrier and its six receive cells. -/
def creds : sProp 𝕄 :=
  iprop(cred (tallyAt (bC c) () 2)
    ∗ cred (tallyAt (dC c (q 10)) () N)
    ∗ cred (tallyAt (dC c (q 11)) () N)
    ∗ cred (tallyAt (dC c (q 12)) () N)
    ∗ cred (tallyAt (dC c (q 16)) () N)
    ∗ cred (tallyAt (dC c (q 17)) () N)
    ∗ cred (tallyAt (dC c (q 18)) () N))

omit [FloatOps F] in
/-- What the devices owe a cell of `c` is the credit `c` gets there. -/
theorem creds_intro : (Pipeline.launchCred (fun d => O d 0) c : sProp 𝕄) ⊢ creds c := by
  have e : (fun d : Dev nD => O d 0) = fun d => ((((((((0 : CellTallies nD τ sig Unit) + tallyAt (dC (prv d) (q 18)) () N) + tallyAt (dC (nxt d) (q 12)) () N)
      + tallyAt (dC (prv d) (q 17)) () N) + tallyAt (dC (nxt d) (q 11)) () N) + tallyAt (dC (prv d) (q 16)) () N) + tallyAt (dC (nxt d) (q 10)) () N)
      + tallyAt (bC (nxt d)) () 1) + tallyAt (bC (prv d)) () 1 := rfl
  have hn (sm : SemLoc sig) (k : ℕ) : (Pipeline.launchCred (fun d => tallyAt ((nxt d : Thread nD τ), sm) () k) c : sProp 𝕄) ⊢ cred (tallyAt ((c : Thread nD τ), sm) () k) :=
    Pipeline.launchCred_tallyAt sm nxt prv nxt_prv prv_nxt () k c
  have hp (sm : SemLoc sig) (k : ℕ) : (Pipeline.launchCred (fun d => tallyAt ((prv d : Thread nD τ), sm) () k) c : sProp 𝕄) ⊢ cred (tallyAt ((c : Thread nD τ), sm) () k) :=
    Pipeline.launchCred_tallyAt sm prv nxt prv_nxt nxt_prv () k c
  have h10 := hn (.dma (q 10)) N
  have h11 := hn (.dma (q 11)) N
  have h12 := hn (.dma (q 12)) N
  have h16 := hp (.dma (q 16)) N
  have h17 := hp (.dma (q 17)) N
  have h18 := hp (.dma (q 18)) N
  rw [e, Pipeline.launchCred_add, Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨-, H18⟩, H12⟩, H17⟩, H11⟩, H16⟩, H10⟩, Hn⟩, Hp⟩
  ihave Hn := (hn (.reg barS) 1) $$ Hn
  ihave Hp := (hp (.reg barS) 1) $$ Hp
  isplitl [Hn Hp]
  · rw [show (tallyAt (bC c) () 2 : CellTallies nD τ sig Unit) = tallyAt (bC c) () 1 + tallyAt (bC c) () 1 from (tallyAt_add _ _ 1 1).symm]
    iapply (cred_add _ _).2
    isplitl [Hn] <;> iassumption
  isplitl [H10]; · iapply h10 $$ H10
  isplitl [H11]; · iapply h11 $$ H11
  isplitl [H12]; · iapply h12 $$ H12
  isplitl [H16]; · iapply h16 $$ H16
  isplitl [H17]; · iapply h17 $$ H17
  iapply h18 $$ H18

/-! ## The pipeline around the body -/

/-- What device `c` starts from. -/
def start : sProp 𝕄 :=
  iprop((∃ K, records m K ∗ linear c) ∗ creds c ∗ levAts L lv ∗ wAt m c fullShare ∗ free c oM)
def scratch : sProp 𝕄 := iprop(free c x8M ∗ free c wsM ∗ free c w8M ∗ free c osM ∗ free c cwM ∗ free c ccM)
def Φ₀ : sProp 𝕄 := iprop(start m c ∗ scratch c)
/-- What it ends with. -/
def Φ₁ : sProp 𝕄 :=
  iprop((semVal (bC c) 0 ∗ wAt m c fullShare ∗ own c oM fullShare (outAll m c))
    ∗ Pipeline.ownSems0 (Ix := Unit) (Name := ℕ) (U := UU) (Lvl := ℕ) (Val := Elt F) (τ := τ) osem c ∗ scratch c)

/-- The pipeline's windows: the three inputs, staged whole and left as they are. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => sxstg m c
    | ⟨2, _⟩ => swstg m c
  Φ t := match t with
    | ⟨0, _⟩ => Φ₀ m c
    | ⟨_ + 1, _⟩ => Φ₁ m c
  q _ := fullShare
  owed t := match t with
    | ⟨0, _⟩ => O c 0
    | ⟨_ + 1, _⟩ => 0

abbrev t₀ : Fin cfg0.N := t0_0

variable [∀ e, Nonempty (Elt F e)]

/-- The body with the pipeline's bookkeeping around it. -/
theorem body_staged :
    iprop(Φ₀ m c ∗ (dats m ρ 0 c).owesAt () t₀.castSucc
        ∗ (∃ d, own c xM fullShare ((dats m ρ 0 c).before (0 : Fin 3) t₀ d))
        ∗ (∃ d, own c sxM fullShare ((dats m ρ 0 c).before (1 : Fin 3) t₀ d))
        ∗ (∃ d, own c swM fullShare ((dats m ρ 0 c).before (2 : Fin 3) t₀ d)))
      ⊢ wpc c (cc0_body (F := F) xM (Memref.isWhole_whole _) wM (Memref.isWhole_whole _) sxM (Memref.isWhole_whole _) swM (Memref.isWhole_whole _) oM (Memref.isWhole_whole _) x8M (Memref.isWhole_whole _) wsM (Memref.isWhole_whole _) w8M (Memref.isWhole_whole _) osM (Memref.isWhole_whole _) cwM (Memref.isWhole_whole _) ccM (Memref.isWhole_whole _) cc0_scratch6 cc0_scratch7 cc0_scratch8 cc0_scratch9 cc0_scratch10 cc0_scratch11)
          (fun _ => iprop(Φ₁ m c ∗ (dats m ρ 0 c).owesAt () t₀.succ
            ∗ own c xM fullShare (xstg m c) ∗ own c sxM fullShare (sxstg m c) ∗ own c swM fullShare (swstg m c))) := by
  have e0 : ∀ d, (dats m ρ 0 c).before (0 : Fin 3) t₀ d = xstg m c := fun d => by unfold Dat.before; rw [if_pos (fetch0_0 t₀)]; rfl
  have e1 : ∀ d, (dats m ρ 0 c).before (1 : Fin 3) t₀ d = sxstg m c := fun d => by unfold Dat.before; rw [if_pos (fetch0_1 t₀)]; rfl
  have e2 : ∀ d, (dats m ρ 0 c).before (2 : Fin 3) t₀ d = swstg m c := fun d => by unfold Dat.before; rw [if_pos (fetch0_2 t₀)]; rfl
  simp only [e0, e1, e2]
  unfold Φ₀ start linear localSems creds scratch Dat.owesAt Pipeline.owesWithin
  rw [show (dats m ρ 0 c).owed t₀.castSucc = O c 0 from rfl, show (dats m ρ 0 c).owed t₀.succ = 0 from rfl]
  rw [kcells_eq c fun g => (atPos ER g 0 ∅ 0 : sProp 𝕄), payToks_eq]
  iintro ⟨⟨⟨⟨%K, #HR, ⟨h14, h15, h16, h17, h19, h21, h23, h24, h25, h26, h28, h30, h32⟩, ⟨h33, h34, h35, h36, h37, h38, h39, h40, h41, h42, h43, h44, h45, h46⟩, h47, h48, h49, h50⟩, ⟨h13, h18, h20, h22, h27, h29, h31⟩, #Hlev, h5, h6⟩, h7, h8, h9, h10, h11, h12⟩, ⟨%W, -, HO⟩, ⟨%d0, h2⟩, ⟨%d1, h3⟩, %d2, h4⟩
  ihave h1 := (show owes (c : Thread nD τ) (O c 0) W ⊢ (ow c 0 : sProp 𝕄) from by unfold ow; iintro H; iexists W; iexact H) $$ HO
  iapply wp_wand_r
  isplitl [h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50]
  · iapply (body_run m K c)
    isplitr
    · unfold env records; isplitl; · iexact HR
      iexact Hlev
    isplitl [h1]
    · iexact h1
    isplitl [h2]
    · iexact h2
    isplitl [h3]
    · iexact h3
    isplitl [h4]
    · iexact h4
    isplitl [h5]
    · iexact h5
    isplitl [h6]
    · iexact h6
    isplitl [h7]
    · iexact h7
    isplitl [h8]
    · iexact h8
    isplitl [h9]
    · iexact h9
    isplitl [h10]
    · iexact h10
    isplitl [h11]
    · iexact h11
    isplitl [h12]
    · iexact h12
    isplitl [h13 h14]
    · isplitl [h13]
      · iexact h13
      iexact h14
    isplitl [h15]
    · iexact h15
    isplitl [h16]
    · iexact h16
    isplitl [h17]
    · iexact h17
    isplitl [h18 h19]
    · isplitl [h18]
      · iexact h18
      iexact h19
    isplitl [h20 h21]
    · isplitl [h20]
      · iexact h20
      iexact h21
    isplitl [h22 h23]
    · isplitl [h22]
      · iexact h22
      iexact h23
    isplitl [h24]
    · iexact h24
    isplitl [h25]
    · iexact h25
    isplitl [h26]
    · iexact h26
    isplitl [h27 h28]
    · isplitl [h27]
      · iexact h27
      iexact h28
    isplitl [h29 h30]
    · isplitl [h29]
      · iexact h29
      iexact h30
    isplitl [h31 h32]
    · isplitl [h31]
      · iexact h31
      iexact h32
    isplitl [h33]
    · iexact h33
    isplitl [h34]
    · iexact h34
    isplitl [h35]
    · iexact h35
    isplitl [h36]
    · iexact h36
    isplitl [h37]
    · iexact h37
    isplitl [h38]
    · iexact h38
    isplitl [h39]
    · iexact h39
    isplitl [h40]
    · iexact h40
    isplitl [h41]
    · iexact h41
    isplitl [h42]
    · iexact h42
    isplitl [h43]
    · iexact h43
    isplitl [h44]
    · iexact h44
    isplitl [h45]
    · iexact h45
    isplitl [h46]
    · iexact h46
    isplitl [h47]
    · iexact h47
    isplitl [h48]
    · iexact h48
    isplitl [h49]
    · iexact h49
    iexact h50
  iintro %r ⟨h51, h2, h3, h4, h5, h52, h7, h8, h9, h10, h11, h12, h53, h47, h48, h49, h50, h54, h55, h56, h57, h58, h59, h60, h61, h62, h63, h64, h65⟩
  unfold Φ₁ scratch
  rw [ownSems0_eq]
  isplitr [h51 h2 h3 h4]
  · isplitl [h53 h5 h52]
    · isplitl [h53]
      · iexact h53
      isplitl [h5]
      · iexact h5
      iexact h52
    isplitl [h47 h48 h49 h50 h54 h55 h56 h57 h58 h59 h60 h61 h62 h63 h64 h65]
    · isplitl [h47]
      · iexact h47
      isplitl [h48]
      · iexact h48
      isplitl [h49]
      · iexact h49
      isplitl [h50]
      · iexact h50
      isplitl [h54]
      · iexact h54
      isplitl [h55]
      · iexact h55
      isplitl [h56]
      · iexact h56
      isplitl [h57]
      · iexact h57
      isplitl [h58]
      · iexact h58
      isplitl [h59]
      · iexact h59
      isplitl [h60]
      · iexact h60
      isplitl [h61]
      · iexact h61
      isplitl [h62]
      · iexact h62
      isplitl [h63]
      · iexact h63
      isplitl [h64]
      · iexact h64
      iexact h65
    isplitl [h7]
    · iexact h7
    isplitl [h8]
    · iexact h8
    isplitl [h9]
    · iexact h9
    isplitl [h10]
    · iexact h10
    isplitl [h11]
    · iexact h11
    iexact h12
  isplitl [h51]
  · unfold ow; icases h51 with ⟨%W', HO⟩
    iexists W'
    isplitr; · ipureintro; exact fun _ _ => Or.inl trivial
    iexact HO
  isplitl [h2]
  · iexact h2
  isplitl [h3]
  · iexact h3
  iexact h4

/-- The pipeline's obligation for the body. -/
theorem body_obligation : BodyObligation (dats (F := F) m ρ 0 c) (defs₀ (F := F)) 𝒱₀ () Set.univ := fun t => by
  rw [fin_N0 t]
  rw [bigSep_W0, bigSep_W0]
  exact body_staged m ρ c

/-! ## The run -/

omit [∀ e, Nonempty (Elt F e)] in
theorem share_eq (w : Fin cfg0.W) : (dats m ρ 0 c).share w = fullShare := by unfold Dat.share; split <;> rfl

omit [∀ e, Nonempty (Elt F e)] in
theorem start_intro :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  rw [Pipeline.unscopedRestP_none, unscopedRest0_eq]
  iintro ⟨⟨Hw, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hw]; · iexact Hw
    rw [free_whole]; iexists _; iexact Ho
  · iempintro

omit [∀ e, Nonempty (Elt F e)] in
theorem scratch_eq : (Pipeline.scopedRest (Ix := Unit) (Name := ℕ) (U := UU) (Lvl := ℕ) (Val := Elt F) cfg0.spec c : sProp 𝕄) = scratch c := by
  unfold scratch; simp only [free_whole]; exact scopedRest0_eq c

omit [∀ e, Nonempty (Elt F e)] in
theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

omit [∀ e, Nonempty (Elt F e)] in
theorem phi1_exit :
    (dats m ρ 0 c).Φ (Fin.last cfg0.N) ⊢ iprop((semVal (bC c) 0 ∗ wAt m c fullShare ∗ own c oM fullShare (outAll m c)) ∗ Pipeline.ownSems0 osem c ∗ Pipeline.scopedRest cfg0.spec c) := by
  rw [show (dats m ρ 0 c).Φ (Fin.last cfg0.N) = Φ₁ m c from rfl, scratch_eq]; exact .rfl

omit [∀ e, Nonempty (Elt F e)] in
theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c (.dma _) 0 (by fin_cases w <;> fin_cases s <;> rfl)
    · show _ ⊢ MayWait _ _ _ 0
      rw [MayWait_zero]; iintro -; iempintro

/-- What the memory holds at the end: the weights as before, the result, the unscoped semaphores at zero. -/
def QY (s : MemSt nD τ sig (Elt F)) : Prop :=
  s.mem ((c : Thread nD τ).loc main_arg1) = m ((c : Thread nD τ).loc main_arg1) ∧ s.mem ((c : Thread nD τ).loc main_v1) = outAll m c
    ∧ ∀ sm : SemLoc sig, sm.isScoped .tc = false → s.sem ((c.tc : Thread nD τ), sm) = 0

omit [FloatOps F] [∀ e, Nonempty (Elt F e)] in
theorem read_one (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  have h := pointsTo_read_all (Ix := Unit) (Name := ℕ) (U := UU) (Lvl := ℕ) (Finset.univ : Finset Unit) (fun _ => (c : Thread nD τ).loc b) (fun _ => f) s' fullShare
  rw [show (Finset.univ : Finset Unit) = {()} from rfl, bigSep_singleton] at h
  refine h.trans ?_
  iintro ⟨%h, H⟩
  isplitr; · ipureintro; exact h () (Finset.mem_singleton_self _)
  iexact H

omit [∀ e, Nonempty (Elt F e)] in
theorem final_read (s' : Phys nD τ sig (Elt F)) :
    iprop((semVal (bC c) 0 ∗ wAt m c fullShare ∗ own c oM fullShare (outAll m c)) ∗ emp ∗ SI s') ⊢ (|={Set.univ}=> iprop(⌜QY m c s'.mem⌝ ∗ SI s') : sProp 𝕄) := by
  rw [← unscopedSems0_eq]
  unfold own
  rw [owns_whole]
  iintro ⟨⟨Hb, Hw, Ho⟩, -, HSI⟩
  ihave H := (read_one c main_arg1 (m ((c : Thread nD τ).loc main_arg1)) s') $$ [Hw HSI]
  · isplitl [Hw]; · iexact Hw
    iexact HSI
  icases H with ⟨%h1, HSI⟩
  ihave H := (read_one c main_v1 (outAll m c) s') $$ [Ho HSI]
  · isplitl [Ho]; · iexact Ho
    iexact HSI
  icases H with ⟨%h2, HSI⟩
  imod (Pipeline.unscopedSems0_read (X := unscopedSems0 c) (c := c) fupd_intro s') $$ [Hb HSI] with ⟨%h3, HSI⟩
  · isplitl [Hb] <;> iassumption
  imodintro
  isplitr; · ipureintro; exact ⟨h1, h2, h3⟩
  iexact HSI

/-- The final memory of a run. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N) ∧ QY m c r.2

set_option maxRecDepth 8000 in
/-- From any memory with the semaphores at zero, every weakly fair execution of the program ends; the windows' arrays are as the
    pipeline leaves them, the weights unchanged, the result in place, and every semaphore is at zero. -/
theorem run_pipeline : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := fun c => O c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(semVal (bC c) 0 ∗ wAt m c fullShare ∗ own c oM fullShare (outAll m c))) (Z := fun _ => iprop(emp))
    (hX := start_intro m ρ) (hin := phi0_intro m ρ) (hout := phi1_exit m ρ)
    (QY := QY m) (hY := final_read m)
    (hQ := fun _ h hs => ⟨fun c => ⟨(h c).1, (h c).2.2⟩, sem_eq_zero hs fun c => (h c).2.2.2.2⟩)

/-- The same, buffer by buffer. -/
theorem run_main : θ_run defs (onTc (τ := τ) (main (F := F))) ⟨m, fun _ => 0, ρ⟩ (fun r =>
    (∀ c : Dev nD, r.2.mem ((c : Thread nD τ).loc main_v1) = outAll m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c).2.2.1,
    ((h.1 c).1 (0 : Fin 3)).trans ((dats (F := F) m ρ 0 c).arrAt_in (0 : Fin 3) rfl _),
    (h.1 c).2.1,
    ((h.1 c).1 (1 : Fin 3)).trans ((dats (F := F) m ρ 0 c).arrAt_in (1 : Fin 3) rfl _),
    ((h.1 c).1 (2 : Fin 3)).trans ((dats (F := F) m ρ 0 c).arrAt_in (2 : Fin 3) rfl _)⟩, h.2⟩) (run_pipeline m ρ)

end Cert.RingProof

end
-- ==== Proof.Same.lean ====
/-
# Same: the kernel and its reading at the reals have one text

The two programs are the same function of the float values, so a run of one is a run of the other.
-/
module

public import proofs.«01_k».proof.Proof.Gen.Kernel
public import proofs.«01_k».proof.Proof.Gen.KernelIdeal

@[expose] public section

set_option maxRecDepth 65536

noncomputable section

namespace Cert.RingProof

open Idealize.ShloMosaic Idealize.ShloMosaic.TcCoe Idealize.SL.Sem

variable {F : FTy → Type} [FloatOps F]

/-- The two bodies are the same. -/
theorem body_same : Cert.Kernel.cc0_body (F := F) = Cert.KernelIdeal.cc0_body (F := F) := rfl

/-- So are the tables of bodies, -/
theorem defs₀_same : Cert.Kernel.defs₀ (F := F) = Cert.KernelIdeal.defs₀ (F := F) := by
  refine congrArg (Defs.onTc (Λ := Cert.KernelIdeal.Λ₀)) (funext fun ℓ => funext fun a => ?_)
  match ℓ, a with
  | ⟨0, _⟩, (t, s) => rfl

/-- the tables of pipelines, -/
theorem defs_same : Cert.Kernel.defs (F := F) = Cert.KernelIdeal.defs (F := F) :=
  congrArg (Pipeline.defs Cert.KernelIdeal.pcfgs) defs₀_same

/-- and the programs. -/
theorem main_same : Cert.Kernel.main (F := F) = Cert.KernelIdeal.main (F := F) := rfl

/-- A run of the one is a run of the other. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q :=
  Eq.mp (congrArg₂ (fun D M => θ_run D (onTc (τ := Cert.KernelIdeal.τ) M) s Q) (defs_same (F := F)).symm (main_same (F := F)).symm) h

end Cert.RingProof

end
-- ==== Proof.Value.lean ====
/-
# Value: what the kernel leaves on device `c` is block `c` of the reference's result

At the reals a cast is the identity, so element `(r, j)` of device `c`'s result is `max ((∑ k, x r k * w k (2048 c + j)) * s) 0`:
row `r` lies in half block `r / 512` of `x`, and the column is one of the device's own.
-/
module

public import proofs.«01_k».proof.Proof.Contents
public import proofs.«01_k».proof.Proof.Gen.ReferenceIdeal
public import Idealize.ShloMosaic.Lib.Layout
public import Idealize.ShloMosaic.Lib.MatmulPlain
public import Idealize.ShloMosaic.Lib.StackMember

@[expose] public section

set_option maxRecDepth 16384

noncomputable section

namespace Cert.RingProof

open Cert.KernelIdeal Cert.KernelIdeal.Gen
open Idealize.ShloMosaic Idealize.ShloMosaic.TcCoe Idealize.ShloMosaic.ValueIdx Idealize.ShloMosaic.StackMember
open scoped BigOperators

variable (m : (ℓ : Loc nD τ sig) → Buf (Elt Ideal) ℓ) (c : Dev nD)
variable (X : Cert.ReferenceIdeal.S4096x4096.Idx → EReal) (W : S4096x8192.Idx → EReal) (sx sw : S1.Idx → EReal)

/-! ## The staged arguments are the arguments -/

theorem xstg_eq : (xstg m c : S1024x4096.Idx → EReal) = m ((c : Thread nD τ).loc main_arg0) := by
  funext i
  refine congrArg (m ((c : Thread nD τ).loc main_arg0)) (funext fun a => Fin.ext ?_)
  match a with
  | ⟨0, _⟩ => show 0 * 1024 + 1 * (i 0).val = (i 0).val; omega
  | ⟨1, _⟩ => show 0 * 4096 + 1 * (i 1).val = (i 1).val; omega
theorem sxstg_eq : (sxstg m c : S1.Idx → EReal) = m ((c : Thread nD τ).loc main_arg2) := by
  funext i
  refine congrArg (m ((c : Thread nD τ).loc main_arg2)) (funext fun a => Fin.ext ?_)
  match a with
  | ⟨0, _⟩ => show 0 * 1 + 1 * (i 0).val = (i 0).val; omega
theorem swstg_eq : (swstg m c : S1.Idx → EReal) = m ((c : Thread nD τ).loc main_arg3) := by
  funext i
  refine congrArg (m ((c : Thread nD τ).loc main_arg3)) (funext fun a => Fin.ext ?_)
  match a with
  | ⟨0, _⟩ => show 0 * 1 + 1 * (i 0).val = (i 0).val; omega

/-! ## The kernel's tile at an index -/

/-- One element of a tile. -/
theorem outBlk_at (s : EReal) (x : FVec Ideal S512x4096 .fp8e5m2) (w : FVec Ideal S4096x2048 .fp8e5m2) (r : Fin 512) (j : Fin 2048) :
    outBlk (F := Ideal) s x w (ix2 r j) = max ((∑ k : Fin 4096, x (ix2 r k) * w (ix2 k j)) * s) 0 := by
  have h : FloatOps.matmul (F := Ideal) dot_S512x4096_S4096x2048_S512x2048_1_0_0_1_n_n none x w (constant S512x2048 .f32 0x00000000#32) (ix2 r j)
      = ∑ k : Fin 4096, x (ix2 r k) * w (ix2 k j) := by
    refine (Ideal.matmul_plain_apply (M := 512) (K := 4096) (N := 2048) none x w _ r j).trans ?_
    show Ideal.ofBits .f32 0x00000000#32 + _ = _
    rw [Ideal.ofBits_zero_f32, zero_add]
  show max (FloatOps.matmul (F := Ideal) dot_S512x4096_S4096x2048_S512x2048_1_0_0_1_n_n none x w (constant S512x2048 .f32 0x00000000#32) (ix2 r j) * s) (Ideal.ofBits .f32 0x00000000#32) = _
  rw [h, Ideal.ofBits_zero_f32]

/-- A half block of `x` is the rows of `x` from `512 k`. -/
theorem half_eq (hx : ∀ d : Dev nD, m ((d : Thread nD τ).loc main_arg0) = Layout.block ⟨2, ![1024, 4096]⟩ ⟨2, ![4096, 4096]⟩ 0 4 d X)
    (k : ℕ) (hk : k < 8) (r : Fin 512) (l : Fin 4096) (hr : 512 * k + r.val < 4096) :
    (half m k : S512x4096.Idx → EReal) (ix2 r l) = X (ix2 ⟨512 * k + r.val, hr⟩ l) := by
  have hX8 (d : Dev nD) (i : S1024x4096.Idx) : (X8 m d : S1024x4096.Idx → EReal) i = X (ix2 ⟨1024 * d.val + (i 0).val, by
      have h1 : d.val < 4 := d.isLt; have h2 : (i 0).val < 1024 := (i 0).isLt; show _ < 4096; omega⟩ (i 1)) := by
    unfold X8 k0_pay1
    rw [shapeCast_self, shapeCast_self]
    show (xstg m d : S1024x4096.Idx → EReal) i = _
    rw [xstg_eq, hx d, Layout.block_apply]
    refine congrArg X (funext fun a => Fin.ext ?_)
    match a with
    | ⟨0, _⟩ => show d.val * 1024 + (i 0).val = 1024 * d.val + (i 0).val; omega
    | ⟨1, _⟩ => rfl
  unfold half
  split
  · show (X8 m _ : S1024x4096.Idx → EReal) _ = _
    rw [hX8]
    refine congrArg X (funext fun a => Fin.ext ?_)
    match a with
    | ⟨0, _⟩ => show 1024 * (k / 2 % 4) + (0 + 1 * r.val) = 512 * k + r.val; omega
    | ⟨1, _⟩ => show 0 + 1 * l.val = l.val; omega
  · show (X8 m _ : S1024x4096.Idx → EReal) _ = _
    rw [hX8]
    refine congrArg X (funext fun a => Fin.ext ?_)
    match a with
    | ⟨0, _⟩ => show 1024 * (k / 2 % 4) + (512 + 1 * r.val) = 512 * k + r.val; omega
    | ⟨1, _⟩ => show 0 + 1 * l.val = l.val; omega

/-- A device's columns of the weights. -/
theorem W8_eq (hw : m ((c : Thread nD τ).loc main_arg1) = W) (k : Fin 4096) (j : Fin 2048) (hj : 2048 * c.val + j.val < 8192) :
    (W8 m c : S4096x2048.Idx → EReal) (ix2 k j) = W (ix2 k ⟨2048 * c.val + j.val, hj⟩) := by
  subst hw
  show m ((c : Thread nD τ).loc main_arg1) _ = _
  refine congrArg (m ((c : Thread nD τ).loc main_arg1)) (funext fun a => Fin.ext ?_)
  match a with
  | ⟨0, _⟩ => show 0 + 1 * k.val = k.val; omega
  | ⟨1, _⟩ => show 2048 * c.val + 1 * j.val = 2048 * c.val + j.val; omega

/-- A scale has one index. -/
theorem one_idx (i j : S1.Idx) : i = j := funext fun a => Fin.ext (by
  match a with
  | ⟨0, _⟩ =>
    have h1 : (i 0).val < 1 := (i 0).isLt
    have h2 : (j 0).val < 1 := (j 0).isLt
    show (i 0).val = (j 0).val
    omega)

/-- The scale. -/
theorem sc_eq (hsx : m ((c : Thread nD τ).loc main_arg2) = sx) (hsw : m ((c : Thread nD τ).loc main_arg3) = sw) (i : S1.Idx) :
    (sc m c : EReal) = sx i * sw i := by
  subst hsx hsw
  have e (v w v' w' : S1.Idx → EReal) (hv : v = v') (hw : w = w') (j : S1.Idx) : v j * w j = v' i * w' i := by
    subst hv hw; rw [one_idx j i]
  exact e _ _ _ _ (sxstg_eq m c) (swstg_eq m c) _

/-! ## The reference -/

/-- The reference's result as a function of its arguments. -/
abbrev refOut : Cert.ReferenceIdeal.S4096x8192.Idx → EReal :=
  maximumf (F := Ideal) (mulf (Host.dotGeneral (φ₁ := .f32) (φ₂ := .f32) Cert.ReferenceIdeal.dot_S4096x4096_S4096x8192_S4096x8192_1_0_0_1_n_n none (X : FVec Ideal Cert.ReferenceIdeal.S4096x4096 .f32) (W : FVec Ideal Cert.ReferenceIdeal.S4096x8192 .f32))
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf (sx : FVec Ideal Cert.ReferenceIdeal.S1 .f32) (sw : FVec Ideal Cert.ReferenceIdeal.S1 .f32)))))
    (broadcastInDim Cert.ReferenceIdeal.S4096x8192 ![] Cert.ReferenceIdeal.Facts₀.bcast_S_S4096x8192 (constant Cert.ReferenceIdeal.S_ .f32 0x00000000#32))

/-- One element of it. -/
theorem refOut_at (r : Fin 4096) (j : Fin 8192) (i : S1.Idx) :
    refOut X W sx sw (ix2 r j) = max ((∑ k : Fin 4096, X (ix2 r k) * W (ix2 k j)) * (sx i * sw i)) 0 := by
  have h : Host.dotGeneral (F := Ideal) (φ₁ := .f32) (φ₂ := .f32) Cert.ReferenceIdeal.dot_S4096x4096_S4096x8192_S4096x8192_1_0_0_1_n_n none (X : FVec Ideal Cert.ReferenceIdeal.S4096x4096 .f32) (W : FVec Ideal Cert.ReferenceIdeal.S4096x8192 .f32) (ix2 r j)
      = ∑ k : Fin 4096, X (ix2 r k) * W (ix2 k j) := dotGeneral_plain_apply (m := 4096) (k := 4096) (n := 8192) (φ₁ := .f32) (φ₂ := .f32) none X W r j
  show max (Host.dotGeneral (F := Ideal) (φ₁ := .f32) (φ₂ := .f32) Cert.ReferenceIdeal.dot_S4096x4096_S4096x8192_S4096x8192_1_0_0_1_n_n none (X : FVec Ideal Cert.ReferenceIdeal.S4096x4096 .f32) (W : FVec Ideal Cert.ReferenceIdeal.S4096x8192 .f32) (ix2 r j)
    * (sx _ * sw _)) (Ideal.ofBits .f32 0x00000000#32) = _
  rw [h, Ideal.ofBits_zero_f32]
  exact congrArg (fun t : S1.Idx => max ((∑ k : Fin 4096, X (ix2 r k) * W (ix2 k j)) * (sx t * sw t)) 0) (one_idx _ i)

/-! ## The two agree -/

/-- What the kernel leaves on device `c` is block `c` of the reference's result. -/
theorem outAll_eq_ref
    (hx : ∀ d : Dev nD, m ((d : Thread nD τ).loc main_arg0) = Layout.block ⟨2, ![1024, 4096]⟩ ⟨2, ![4096, 4096]⟩ 0 4 d X)
    (hw : m ((c : Thread nD τ).loc main_arg1) = W)
    (hsx : m ((c : Thread nD τ).loc main_arg2) = sx) (hsw : m ((c : Thread nD τ).loc main_arg3) = sw) :
    (outAll m c : S4096x2048.Idx → EReal) = Layout.block ⟨2, ![4096, 2048]⟩ ⟨2, ![4096, 8192]⟩ 1 4 c (refOut X W sx sw) := by
  funext i
  have hc : c.val < 4 := c.isLt
  have h0 : (i 0).val < 4096 := (i 0).isLt
  have h1 : (i 1).val < 2048 := (i 1).isLt
  rw [Layout.block_apply]
  have hi : Layout.Tiles.idx (S := ⟨2, ![4096, 2048]⟩) (T := ⟨2, ![4096, 8192]⟩) (a := 1) (k := 4) (by decide) c i
      = ix2 (⟨(i 0).val, h0⟩ : Fin 4096) (⟨2048 * c.val + (i 1).val, by omega⟩ : Fin 8192) := by
    funext a; apply Fin.ext
    match a with
    | ⟨0, _⟩ => rfl
    | ⟨1, _⟩ => show c.val * 2048 + (i 1).val = 2048 * c.val + (i 1).val; omega
  rw [hi, refOut_at X W sx sw _ _ (Shape.Idx.first (s := S1) (numel1_S1.symm ▸ Nat.one_pos))]
  have ht : inTile i = ix2 (⟨(i 0).val % 512, Nat.mod_lt _ (by decide)⟩ : Fin 512) (⟨(i 1).val, h1⟩ : Fin 2048) := by
    funext a
    match a with
    | ⟨0, _⟩ => rfl
    | ⟨1, _⟩ => rfl
  unfold outAll
  rw [ht, outBlk_at, sc_eq m c sx sw hsx hsw (Shape.Idx.first (s := S1) (numel1_S1.symm ▸ Nat.one_pos))]
  refine congrArg (fun s => max (s * _) 0) (Finset.sum_congr rfl fun k _ => ?_)
  rw [half_eq m X hx _ (by omega) _ k (by show 512 * ((i 0).val / 512) + (i 0).val % 512 < 4096; omega), W8_eq m c W hw k _ (by show 2048 * c.val + (i 1).val < 8192; omega)]
  refine congrArg (fun t => X (ix2 t k) * _) (Fin.ext ?_)
  show 512 * ((i 0).val / 512) + (i 0).val % 512 = (i 0).val
  omega

end Cert.RingProof

end
-- ==== Proof.lean ====
/-
# The claims, assembled

The two frames of the kernel are its one run (Proof/Launch.lean) taken at the machine's floats and at the reals. The reference's
frame is its generated run. The equation of the two is Proof/Value.lean's, put between the two runs.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value

@[expose] public section

noncomputable section

namespace Cert.Proof

open Idealize.ShloMosaic Idealize.ShloMosaic.TcCoe Idealize.SL.Sem

/-- The kernel at the machine's floats ends, its arguments unchanged and every semaphore at zero. -/
theorem frame_kernel : Cert.quiescent_Kernel := fun m ρ _ =>
  Cert.RingProof.run_same _ _ ((θ_run Cert.KernelIdeal.defs _ _).mono (fun _ h => ⟨fun c => (h.1 c).2, h.2⟩) (Cert.RingProof.run_main (F := Bits) m ρ))

/-- So does the kernel at the reals. -/
theorem frame_kernelIdeal : Cert.quiescent_KernelIdeal := fun m ρ _ =>
  (θ_run Cert.KernelIdeal.defs _ _).mono (fun _ h => ⟨fun c => (h.1 c).2, h.2⟩) (Cert.RingProof.run_main (F := Ideal) m ρ)

/-- So does the reference; it has no semaphore at all. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Each device's result is its block of the reference's. -/
theorem algebraic : Cert.algebraic_KernelIdeal_ReferenceIdeal := fun m ρ m' ρ' _ hargs =>
  ⟨Cert.RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).1.trans (Cert.RingProof.outAll_eq_ref m c _ _ _ _ (fun d => (hargs d).1)
        (hargs c).2.1 (hargs c).2.2.1 (hargs c).2.2.2), (h.1 c).2⟩) (Cert.RingProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
